-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v322)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v322) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x64x32x32 : Shape := ⟨4, ![512, 64, 32, 32]⟩
abbrev S512x64 : Shape := ⟨2, ![512, 64]⟩
abbrev S8x1x3x3 : Shape := ⟨4, ![8, 1, 3, 3]⟩
abbrev S8 : Shape := ⟨1, ![8]⟩
abbrev S16x8x3x3 : Shape := ⟨4, ![16, 8, 3, 3]⟩
abbrev S16 : Shape := ⟨1, ![16]⟩
abbrev S16x16 : Shape := ⟨2, ![16, 16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S31x8 : Shape := ⟨2, ![31, 8]⟩
abbrev S32x8 : Shape := ⟨2, ![32, 8]⟩
abbrev S15x8x16 : Shape := ⟨3, ![15, 8, 16]⟩
abbrev S16x8x16 : Shape := ⟨3, ![16, 8, 16]⟩
abbrev S_ : Shape := ⟨0, ![]⟩
abbrev S96x256 : Shape := ⟨2, ![96, 256]⟩
abbrev S8x1x1x1 : Shape := ⟨4, ![8, 1, 1, 1]⟩
abbrev S1x8 : Shape := ⟨2, ![1, 8]⟩
abbrev S31x8x1 : Shape := ⟨3, ![31, 8, 1]⟩
abbrev S31x8x2 : Shape := ⟨3, ![31, 8, 2]⟩
abbrev S32x8x1 : Shape := ⟨3, ![32, 8, 1]⟩
abbrev S32x8x2 : Shape := ⟨3, ![32, 8, 2]⟩
abbrev S3x256x256 : Shape := ⟨3, ![3, 256, 256]⟩
abbrev S16x8x1x1 : Shape := ⟨4, ![16, 8, 1, 1]⟩
abbrev S16x8 : Shape := ⟨2, ![16, 8]⟩
abbrev S8x16 : Shape := ⟨2, ![8, 16]⟩
abbrev S1x8x16 : Shape := ⟨3, ![1, 8, 16]⟩
abbrev S15x8x16x1 : Shape := ⟨4, ![15, 8, 16, 1]⟩
abbrev S15x8x16x3 : Shape := ⟨4, ![15, 8, 16, 3]⟩
abbrev S16x8x16x1 : Shape := ⟨4, ![16, 8, 16, 1]⟩
abbrev S16x8x16x3 : Shape := ⟨4, ![16, 8, 16, 3]⟩
abbrev S1x16x1x16 : Shape := ⟨4, ![1, 16, 1, 16]⟩
abbrev S16x16x1x16 : Shape := ⟨4, ![16, 16, 1, 16]⟩
abbrev S256x16 : Shape := ⟨2, ![256, 16]⟩
abbrev S256 : Shape := ⟨1, ![256]⟩
abbrev S1x256 : Shape := ⟨2, ![1, 256]⟩
abbrev S1x16 : Shape := ⟨2, ![1, 16]⟩
abbrev S32768x32x32 : Shape := ⟨3, ![32768, 32, 32]⟩
abbrev S256x2x16 : Shape := ⟨3, ![256, 2, 16]⟩
abbrev S128x32x32 : Shape := ⟨3, ![128, 32, 32]⟩
abbrev S1x2x16 : Shape := ⟨3, ![1, 2, 16]⟩
abbrev S4096x32 : Shape := ⟨2, ![4096, 32]⟩
abbrev S4096x1 : Shape := ⟨2, ![4096, 1]⟩
abbrev S1x32 : Shape := ⟨2, ![1, 32]⟩
abbrev S4095x32 : Shape := ⟨2, ![4095, 32]⟩
abbrev S4096x96 : Shape := ⟨2, ![4096, 96]⟩
abbrev S4096x256 : Shape := ⟨2, ![4096, 256]⟩
abbrev S4095x256 : Shape := ⟨2, ![4095, 256]⟩
abbrev S4096x248 : Shape := ⟨2, ![4096, 248]⟩
abbrev S4096x8 : Shape := ⟨2, ![4096, 8]⟩
abbrev S2x256 : Shape := ⟨2, ![2, 256]⟩
abbrev S4094x256 : Shape := ⟨2, ![4094, 256]⟩
abbrev S1x256x256 : Shape := ⟨3, ![1, 256, 256]⟩
abbrev S256x256 : Shape := ⟨2, ![256, 256]⟩
abbrev S4096x16 : Shape := ⟨2, ![4096, 16]⟩
abbrev S128x32x16 : Shape := ⟨3, ![128, 32, 16]⟩
abbrev S128x16 : Shape := ⟨2, ![128, 16]⟩
abbrev S2x64x16 : Shape := ⟨3, ![2, 64, 16]⟩
abbrev S2x16 : Shape := ⟨2, ![2, 16]⟩
abbrev S512x16 : Shape := ⟨2, ![512, 16]⟩
abbrev S64x8 : Shape := ⟨2, ![64, 8]⟩
abbrev S1 : Shape := ⟨1, ![1]⟩
abbrev S1x64 : Shape := ⟨2, ![1, 64]⟩
abbrev S512x8 : Shape := ⟨2, ![512, 8]⟩
abbrev S512x32 : Shape := ⟨2, ![512, 32]⟩
abbrev S512x128 : Shape := ⟨2, ![512, 128]⟩
abbrev S512x2 : Shape := ⟨2, ![512, 2]⟩

abbrev nBuf : Space → Nat
  | .hbm => 464
  | .vmem => 21
  | .smem => 0
  | _ => 0

abbrev hbmTy0_0 (i : Nat) : BufTy := match i % 128 with
  | 0 => ⟨S512x64x32x32, .f32⟩
  | 1 => ⟨S512x64, .f32⟩
  | 2 => ⟨S8x1x3x3, .f32⟩
  | 3 => ⟨S8, .f32⟩
  | 4 => ⟨S16x8x3x3, .f32⟩
  | 5 => ⟨S16, .f32⟩
  | 6 => ⟨S16x16, .f32⟩
  | 7 => ⟨S16, .f32⟩
  | 8 => ⟨S16x32, .f32⟩
  | 9 => ⟨S32, .f32⟩
  | 10 => ⟨S32x64, .f32⟩
  | 11 => ⟨S64, .f32⟩
  | 12 => ⟨S128x64, .f32⟩
  | 13 => ⟨S64, .f32⟩
  | 14 => ⟨S64x2, .f32⟩
  | 15 => ⟨S2, .f32⟩
  | 16 => ⟨S31x8, .i32⟩
  | 17 => ⟨S31x8, .i1⟩
  | 18 => ⟨S31x8, .i32⟩
  | 19 => ⟨S31x8, .i1⟩
  | 20 => ⟨S32x8, .i32⟩
  | 21 => ⟨S32x8, .i1⟩
  | 22 => ⟨S32x8, .i32⟩
  | 23 => ⟨S32x8, .i1⟩
  | 24 => ⟨S31x8, .i32⟩
  | 25 => ⟨S31x8, .i1⟩
  | 26 => ⟨S31x8, .i32⟩
  | 27 => ⟨S31x8, .i1⟩
  | 28 => ⟨S31x8, .i32⟩
  | 29 => ⟨S31x8, .i1⟩
  | 30 => ⟨S31x8, .i32⟩
  | 31 => ⟨S31x8, .i1⟩
  | 32 => ⟨S32x8, .i32⟩
  | 33 => ⟨S32x8, .i1⟩
  | 34 => ⟨S32x8, .i32⟩
  | 35 => ⟨S32x8, .i1⟩
  | 36 => ⟨S31x8, .i32⟩
  | 37 => ⟨S31x8, .i1⟩
  | 38 => ⟨S31x8, .i32⟩
  | 39 => ⟨S31x8, .i1⟩
  | 40 => ⟨S31x8, .i32⟩
  | 41 => ⟨S31x8, .i1⟩
  | 42 => ⟨S31x8, .i32⟩
  | 43 => ⟨S31x8, .i1⟩
  | 44 => ⟨S32x8, .i32⟩
  | 45 => ⟨S32x8, .i1⟩
  | 46 => ⟨S32x8, .i32⟩
  | 47 => ⟨S32x8, .i1⟩
  | 48 => ⟨S31x8, .i32⟩
  | 49 => ⟨S31x8, .i1⟩
  | 50 => ⟨S31x8, .i32⟩
  | 51 => ⟨S31x8, .i1⟩
  | 52 => ⟨S15x8x16, .i32⟩
  | 53 => ⟨S15x8x16, .i1⟩
  | 54 => ⟨S15x8x16, .i32⟩
  | 55 => ⟨S15x8x16, .i1⟩
  | 56 => ⟨S16x8x16, .i32⟩
  | 57 => ⟨S16x8x16, .i1⟩
  | 58 => ⟨S16x8x16, .i32⟩
  | 59 => ⟨S16x8x16, .i1⟩
  | 60 => ⟨S15x8x16, .i32⟩
  | 61 => ⟨S15x8x16, .i1⟩
  | 62 => ⟨S15x8x16, .i32⟩
  | 63 => ⟨S15x8x16, .i1⟩
  | 64 => ⟨S15x8x16, .i32⟩
  | 65 => ⟨S15x8x16, .i1⟩
  | 66 => ⟨S15x8x16, .i32⟩
  | 67 => ⟨S15x8x16, .i1⟩
  | 68 => ⟨S16x8x16, .i32⟩
  | 69 => ⟨S16x8x16, .i1⟩
  | 70 => ⟨S16x8x16, .i32⟩
  | 71 => ⟨S16x8x16, .i1⟩
  | 72 => ⟨S15x8x16, .i32⟩
  | 73 => ⟨S15x8x16, .i1⟩
  | 74 => ⟨S15x8x16, .i32⟩
  | 75 => ⟨S15x8x16, .i1⟩
  | 76 => ⟨S15x8x16, .i32⟩
  | 77 => ⟨S15x8x16, .i1⟩
  | 78 => ⟨S15x8x16, .i32⟩
  | 79 => ⟨S15x8x16, .i1⟩
  | 80 => ⟨S16x8x16, .i32⟩
  | 81 => ⟨S16x8x16, .i1⟩
  | 82 => ⟨S16x8x16, .i32⟩
  | 83 => ⟨S16x8x16, .i1⟩
  | 84 => ⟨S15x8x16, .i32⟩
  | 85 => ⟨S15x8x16, .i1⟩
  | 86 => ⟨S15x8x16, .i32⟩
  | 87 => ⟨S15x8x16, .i1⟩
  | 88 => ⟨S_, .f32⟩
  | 89 => ⟨S96x256, .f32⟩
  | 90 => ⟨S8x1x1x1, .f32⟩
  | 91 => ⟨S8, .f32⟩
  | 92 => ⟨S1x8, .f32⟩
  | 93 => ⟨S31x8, .f32⟩
  | 94 => ⟨S_, .i32⟩
  | 95 => ⟨S31x8, .i32⟩
  | 96 => ⟨S31x8, .i32⟩
  | 97 => ⟨S31x8, .i32⟩
  | 98 => ⟨S_, .i32⟩
  | 99 => ⟨S31x8, .i32⟩
  | 100 => ⟨S31x8, .i32⟩
  | 101 => ⟨S31x8, .i32⟩
  | 102 => ⟨S31x8x1, .i32⟩
  | 103 => ⟨S31x8x1, .i32⟩
  | 104 => ⟨S31x8x2, .i32⟩
  | 105 => ⟨S96x256, .f32⟩
  | 106 => ⟨S8x1x1x1, .f32⟩
  | 107 => ⟨S8, .f32⟩
  | 108 => ⟨S1x8, .f32⟩
  | 109 => ⟨S32x8, .f32⟩
  | 110 => ⟨S_, .i32⟩
  | 111 => ⟨S32x8, .i32⟩
  | 112 => ⟨S32x8, .i32⟩
  | 113 => ⟨S32x8, .i32⟩
  | 114 => ⟨S_, .i32⟩
  | 115 => ⟨S32x8, .i32⟩
  | 116 => ⟨S32x8, .i32⟩
  | 117 => ⟨S32x8, .i32⟩
  | 118 => ⟨S32x8x1, .i32⟩
  | 119 => ⟨S32x8x1, .i32⟩
  | 120 => ⟨S32x8x2, .i32⟩
  | 121 => ⟨S96x256, .f32⟩
  | 122 => ⟨S8x1x1x1, .f32⟩
  | 123 => ⟨S8, .f32⟩
  | 124 => ⟨S1x8, .f32⟩
  | 125 => ⟨S31x8, .f32⟩
  | 126 => ⟨S_, .i32⟩
  | 127 => ⟨S31x8, .i32⟩
  | _ => ⟨S512x64x32x32, .f32⟩

abbrev hbmTy0_1 (i : Nat) : BufTy := match i % 128 with
  | 0 => ⟨S31x8, .i32⟩
  | 1 => ⟨S31x8, .i32⟩
  | 2 => ⟨S_, .i32⟩
  | 3 => ⟨S31x8, .i32⟩
  | 4 => ⟨S31x8, .i32⟩
  | 5 => ⟨S31x8, .i32⟩
  | 6 => ⟨S31x8x1, .i32⟩
  | 7 => ⟨S31x8x1, .i32⟩
  | 8 => ⟨S31x8x2, .i32⟩
  | 9 => ⟨S96x256, .f32⟩
  | 10 => ⟨S8x1x1x1, .f32⟩
  | 11 => ⟨S8, .f32⟩
  | 12 => ⟨S1x8, .f32⟩
  | 13 => ⟨S31x8, .f32⟩
  | 14 => ⟨S_, .i32⟩
  | 15 => ⟨S31x8, .i32⟩
  | 16 => ⟨S31x8, .i32⟩
  | 17 => ⟨S31x8, .i32⟩
  | 18 => ⟨S_, .i32⟩
  | 19 => ⟨S31x8, .i32⟩
  | 20 => ⟨S31x8, .i32⟩
  | 21 => ⟨S31x8, .i32⟩
  | 22 => ⟨S31x8x1, .i32⟩
  | 23 => ⟨S31x8x1, .i32⟩
  | 24 => ⟨S31x8x2, .i32⟩
  | 25 => ⟨S96x256, .f32⟩
  | 26 => ⟨S8x1x1x1, .f32⟩
  | 27 => ⟨S8, .f32⟩
  | 28 => ⟨S1x8, .f32⟩
  | 29 => ⟨S32x8, .f32⟩
  | 30 => ⟨S_, .i32⟩
  | 31 => ⟨S32x8, .i32⟩
  | 32 => ⟨S32x8, .i32⟩
  | 33 => ⟨S32x8, .i32⟩
  | 34 => ⟨S_, .i32⟩
  | 35 => ⟨S32x8, .i32⟩
  | 36 => ⟨S32x8, .i32⟩
  | 37 => ⟨S32x8, .i32⟩
  | 38 => ⟨S32x8x1, .i32⟩
  | 39 => ⟨S32x8x1, .i32⟩
  | 40 => ⟨S32x8x2, .i32⟩
  | 41 => ⟨S96x256, .f32⟩
  | 42 => ⟨S8x1x1x1, .f32⟩
  | 43 => ⟨S8, .f32⟩
  | 44 => ⟨S1x8, .f32⟩
  | 45 => ⟨S31x8, .f32⟩
  | 46 => ⟨S_, .i32⟩
  | 47 => ⟨S31x8, .i32⟩
  | 48 => ⟨S31x8, .i32⟩
  | 49 => ⟨S31x8, .i32⟩
  | 50 => ⟨S_, .i32⟩
  | 51 => ⟨S31x8, .i32⟩
  | 52 => ⟨S31x8, .i32⟩
  | 53 => ⟨S31x8, .i32⟩
  | 54 => ⟨S31x8x1, .i32⟩
  | 55 => ⟨S31x8x1, .i32⟩
  | 56 => ⟨S31x8x2, .i32⟩
  | 57 => ⟨S96x256, .f32⟩
  | 58 => ⟨S8x1x1x1, .f32⟩
  | 59 => ⟨S8, .f32⟩
  | 60 => ⟨S1x8, .f32⟩
  | 61 => ⟨S31x8, .f32⟩
  | 62 => ⟨S_, .i32⟩
  | 63 => ⟨S31x8, .i32⟩
  | 64 => ⟨S31x8, .i32⟩
  | 65 => ⟨S31x8, .i32⟩
  | 66 => ⟨S_, .i32⟩
  | 67 => ⟨S31x8, .i32⟩
  | 68 => ⟨S31x8, .i32⟩
  | 69 => ⟨S31x8, .i32⟩
  | 70 => ⟨S31x8x1, .i32⟩
  | 71 => ⟨S31x8x1, .i32⟩
  | 72 => ⟨S31x8x2, .i32⟩
  | 73 => ⟨S96x256, .f32⟩
  | 74 => ⟨S8x1x1x1, .f32⟩
  | 75 => ⟨S8, .f32⟩
  | 76 => ⟨S1x8, .f32⟩
  | 77 => ⟨S32x8, .f32⟩
  | 78 => ⟨S_, .i32⟩
  | 79 => ⟨S32x8, .i32⟩
  | 80 => ⟨S32x8, .i32⟩
  | 81 => ⟨S32x8, .i32⟩
  | 82 => ⟨S_, .i32⟩
  | 83 => ⟨S32x8, .i32⟩
  | 84 => ⟨S32x8, .i32⟩
  | 85 => ⟨S32x8, .i32⟩
  | 86 => ⟨S32x8x1, .i32⟩
  | 87 => ⟨S32x8x1, .i32⟩
  | 88 => ⟨S32x8x2, .i32⟩
  | 89 => ⟨S96x256, .f32⟩
  | 90 => ⟨S8x1x1x1, .f32⟩
  | 91 => ⟨S8, .f32⟩
  | 92 => ⟨S1x8, .f32⟩
  | 93 => ⟨S31x8, .f32⟩
  | 94 => ⟨S_, .i32⟩
  | 95 => ⟨S31x8, .i32⟩
  | 96 => ⟨S31x8, .i32⟩
  | 97 => ⟨S31x8, .i32⟩
  | 98 => ⟨S_, .i32⟩
  | 99 => ⟨S31x8, .i32⟩
  | 100 => ⟨S31x8, .i32⟩
  | 101 => ⟨S31x8, .i32⟩
  | 102 => ⟨S31x8x1, .i32⟩
  | 103 => ⟨S31x8x1, .i32⟩
  | 104 => ⟨S31x8x2, .i32⟩
  | 105 => ⟨S96x256, .f32⟩
  | 106 => ⟨S96x256, .bf16⟩
  | 107 => ⟨S_, .f32⟩
  | 108 => ⟨S3x256x256, .f32⟩
  | 109 => ⟨S16x8x1x1, .f32⟩
  | 110 => ⟨S16x8, .f32⟩
  | 111 => ⟨S8x16, .f32⟩
  | 112 => ⟨S1x8x16, .f32⟩
  | 113 => ⟨S15x8x16, .f32⟩
  | 114 => ⟨S_, .i32⟩
  | 115 => ⟨S15x8x16, .i32⟩
  | 116 => ⟨S15x8x16, .i32⟩
  | 117 => ⟨S15x8x16, .i32⟩
  | 118 => ⟨S_, .i32⟩
  | 119 => ⟨S15x8x16, .i32⟩
  | 120 => ⟨S15x8x16, .i32⟩
  | 121 => ⟨S15x8x16, .i32⟩
  | 122 => ⟨S_, .i32⟩
  | 123 => ⟨S15x8x16, .i32⟩
  | 124 => ⟨S15x8x16, .i32⟩
  | 125 => ⟨S15x8x16x1, .i32⟩
  | 126 => ⟨S15x8x16x1, .i32⟩
  | 127 => ⟨S15x8x16x1, .i32⟩
  | _ => ⟨S512x64x32x32, .f32⟩

abbrev hbmTy0_2 (i : Nat) : BufTy := match i % 128 with
  | 0 => ⟨S15x8x16x3, .i32⟩
  | 1 => ⟨S3x256x256, .f32⟩
  | 2 => ⟨S16x8x1x1, .f32⟩
  | 3 => ⟨S16x8, .f32⟩
  | 4 => ⟨S8x16, .f32⟩
  | 5 => ⟨S1x8x16, .f32⟩
  | 6 => ⟨S16x8x16, .f32⟩
  | 7 => ⟨S_, .i32⟩
  | 8 => ⟨S16x8x16, .i32⟩
  | 9 => ⟨S16x8x16, .i32⟩
  | 10 => ⟨S16x8x16, .i32⟩
  | 11 => ⟨S_, .i32⟩
  | 12 => ⟨S16x8x16, .i32⟩
  | 13 => ⟨S16x8x16, .i32⟩
  | 14 => ⟨S16x8x16, .i32⟩
  | 15 => ⟨S_, .i32⟩
  | 16 => ⟨S16x8x16, .i32⟩
  | 17 => ⟨S16x8x16, .i32⟩
  | 18 => ⟨S16x8x16x1, .i32⟩
  | 19 => ⟨S16x8x16x1, .i32⟩
  | 20 => ⟨S16x8x16x1, .i32⟩
  | 21 => ⟨S16x8x16x3, .i32⟩
  | 22 => ⟨S3x256x256, .f32⟩
  | 23 => ⟨S16x8x1x1, .f32⟩
  | 24 => ⟨S16x8, .f32⟩
  | 25 => ⟨S8x16, .f32⟩
  | 26 => ⟨S1x8x16, .f32⟩
  | 27 => ⟨S15x8x16, .f32⟩
  | 28 => ⟨S_, .i32⟩
  | 29 => ⟨S15x8x16, .i32⟩
  | 30 => ⟨S15x8x16, .i32⟩
  | 31 => ⟨S15x8x16, .i32⟩
  | 32 => ⟨S_, .i32⟩
  | 33 => ⟨S15x8x16, .i32⟩
  | 34 => ⟨S15x8x16, .i32⟩
  | 35 => ⟨S15x8x16, .i32⟩
  | 36 => ⟨S_, .i32⟩
  | 37 => ⟨S15x8x16, .i32⟩
  | 38 => ⟨S15x8x16, .i32⟩
  | 39 => ⟨S15x8x16x1, .i32⟩
  | 40 => ⟨S15x8x16x1, .i32⟩
  | 41 => ⟨S15x8x16x1, .i32⟩
  | 42 => ⟨S15x8x16x3, .i32⟩
  | 43 => ⟨S3x256x256, .f32⟩
  | 44 => ⟨S16x8x1x1, .f32⟩
  | 45 => ⟨S16x8, .f32⟩
  | 46 => ⟨S8x16, .f32⟩
  | 47 => ⟨S1x8x16, .f32⟩
  | 48 => ⟨S15x8x16, .f32⟩
  | 49 => ⟨S_, .i32⟩
  | 50 => ⟨S15x8x16, .i32⟩
  | 51 => ⟨S15x8x16, .i32⟩
  | 52 => ⟨S15x8x16, .i32⟩
  | 53 => ⟨S_, .i32⟩
  | 54 => ⟨S15x8x16, .i32⟩
  | 55 => ⟨S15x8x16, .i32⟩
  | 56 => ⟨S15x8x16, .i32⟩
  | 57 => ⟨S_, .i32⟩
  | 58 => ⟨S15x8x16, .i32⟩
  | 59 => ⟨S15x8x16, .i32⟩
  | 60 => ⟨S15x8x16x1, .i32⟩
  | 61 => ⟨S15x8x16x1, .i32⟩
  | 62 => ⟨S15x8x16x1, .i32⟩
  | 63 => ⟨S15x8x16x3, .i32⟩
  | 64 => ⟨S3x256x256, .f32⟩
  | 65 => ⟨S16x8x1x1, .f32⟩
  | 66 => ⟨S16x8, .f32⟩
  | 67 => ⟨S8x16, .f32⟩
  | 68 => ⟨S1x8x16, .f32⟩
  | 69 => ⟨S16x8x16, .f32⟩
  | 70 => ⟨S_, .i32⟩
  | 71 => ⟨S16x8x16, .i32⟩
  | 72 => ⟨S16x8x16, .i32⟩
  | 73 => ⟨S16x8x16, .i32⟩
  | 74 => ⟨S_, .i32⟩
  | 75 => ⟨S16x8x16, .i32⟩
  | 76 => ⟨S16x8x16, .i32⟩
  | 77 => ⟨S16x8x16, .i32⟩
  | 78 => ⟨S_, .i32⟩
  | 79 => ⟨S16x8x16, .i32⟩
  | 80 => ⟨S16x8x16, .i32⟩
  | 81 => ⟨S16x8x16x1, .i32⟩
  | 82 => ⟨S16x8x16x1, .i32⟩
  | 83 => ⟨S16x8x16x1, .i32⟩
  | 84 => ⟨S16x8x16x3, .i32⟩
  | 85 => ⟨S3x256x256, .f32⟩
  | 86 => ⟨S16x8x1x1, .f32⟩
  | 87 => ⟨S16x8, .f32⟩
  | 88 => ⟨S8x16, .f32⟩
  | 89 => ⟨S1x8x16, .f32⟩
  | 90 => ⟨S15x8x16, .f32⟩
  | 91 => ⟨S_, .i32⟩
  | 92 => ⟨S15x8x16, .i32⟩
  | 93 => ⟨S15x8x16, .i32⟩
  | 94 => ⟨S15x8x16, .i32⟩
  | 95 => ⟨S_, .i32⟩
  | 96 => ⟨S15x8x16, .i32⟩
  | 97 => ⟨S15x8x16, .i32⟩
  | 98 => ⟨S15x8x16, .i32⟩
  | 99 => ⟨S_, .i32⟩
  | 100 => ⟨S15x8x16, .i32⟩
  | 101 => ⟨S15x8x16, .i32⟩
  | 102 => ⟨S15x8x16x1, .i32⟩
  | 103 => ⟨S15x8x16x1, .i32⟩
  | 104 => ⟨S15x8x16x1, .i32⟩
  | 105 => ⟨S15x8x16x3, .i32⟩
  | 106 => ⟨S3x256x256, .f32⟩
  | 107 => ⟨S16x8x1x1, .f32⟩
  | 108 => ⟨S16x8, .f32⟩
  | 109 => ⟨S8x16, .f32⟩
  | 110 => ⟨S1x8x16, .f32⟩
  | 111 => ⟨S15x8x16, .f32⟩
  | 112 => ⟨S_, .i32⟩
  | 113 => ⟨S15x8x16, .i32⟩
  | 114 => ⟨S15x8x16, .i32⟩
  | 115 => ⟨S15x8x16, .i32⟩
  | 116 => ⟨S_, .i32⟩
  | 117 => ⟨S15x8x16, .i32⟩
  | 118 => ⟨S15x8x16, .i32⟩
  | 119 => ⟨S15x8x16, .i32⟩
  | 120 => ⟨S_, .i32⟩
  | 121 => ⟨S15x8x16, .i32⟩
  | 122 => ⟨S15x8x16, .i32⟩
  | 123 => ⟨S15x8x16x1, .i32⟩
  | 124 => ⟨S15x8x16x1, .i32⟩
  | 125 => ⟨S15x8x16x1, .i32⟩
  | 126 => ⟨S15x8x16x3, .i32⟩
  | 127 => ⟨S3x256x256, .f32⟩
  | _ => ⟨S512x64x32x32, .f32⟩

abbrev hbmTy0_3 (i : Nat) : BufTy := match i % 128 with
  | 0 => ⟨S16x8x1x1, .f32⟩
  | 1 => ⟨S16x8, .f32⟩
  | 2 => ⟨S8x16, .f32⟩
  | 3 => ⟨S1x8x16, .f32⟩
  | 4 => ⟨S16x8x16, .f32⟩
  | 5 => ⟨S_, .i32⟩
  | 6 => ⟨S16x8x16, .i32⟩
  | 7 => ⟨S16x8x16, .i32⟩
  | 8 => ⟨S16x8x16, .i32⟩
  | 9 => ⟨S_, .i32⟩
  | 10 => ⟨S16x8x16, .i32⟩
  | 11 => ⟨S16x8x16, .i32⟩
  | 12 => ⟨S16x8x16, .i32⟩
  | 13 => ⟨S_, .i32⟩
  | 14 => ⟨S16x8x16, .i32⟩
  | 15 => ⟨S16x8x16, .i32⟩
  | 16 => ⟨S16x8x16x1, .i32⟩
  | 17 => ⟨S16x8x16x1, .i32⟩
  | 18 => ⟨S16x8x16x1, .i32⟩
  | 19 => ⟨S16x8x16x3, .i32⟩
  | 20 => ⟨S3x256x256, .f32⟩
  | 21 => ⟨S16x8x1x1, .f32⟩
  | 22 => ⟨S16x8, .f32⟩
  | 23 => ⟨S8x16, .f32⟩
  | 24 => ⟨S1x8x16, .f32⟩
  | 25 => ⟨S15x8x16, .f32⟩
  | 26 => ⟨S_, .i32⟩
  | 27 => ⟨S15x8x16, .i32⟩
  | 28 => ⟨S15x8x16, .i32⟩
  | 29 => ⟨S15x8x16, .i32⟩
  | 30 => ⟨S_, .i32⟩
  | 31 => ⟨S15x8x16, .i32⟩
  | 32 => ⟨S15x8x16, .i32⟩
  | 33 => ⟨S15x8x16, .i32⟩
  | 34 => ⟨S_, .i32⟩
  | 35 => ⟨S15x8x16, .i32⟩
  | 36 => ⟨S15x8x16, .i32⟩
  | 37 => ⟨S15x8x16x1, .i32⟩
  | 38 => ⟨S15x8x16x1, .i32⟩
  | 39 => ⟨S15x8x16x1, .i32⟩
  | 40 => ⟨S15x8x16x3, .i32⟩
  | 41 => ⟨S3x256x256, .f32⟩
  | 42 => ⟨S3x256x256, .bf16⟩
  | 43 => ⟨S1x16x1x16, .f32⟩
  | 44 => ⟨S16x16x1x16, .f32⟩
  | 45 => ⟨S256x16, .f32⟩
  | 46 => ⟨S_, .f32⟩
  | 47 => ⟨S256x16, .f32⟩
  | 48 => ⟨S256x16, .f32⟩
  | 49 => ⟨S256x16, .bf16⟩
  | 50 => ⟨S1x8, .f32⟩
  | 51 => ⟨S32x8, .f32⟩
  | 52 => ⟨S256, .f32⟩
  | 53 => ⟨S1x256, .f32⟩
  | 54 => ⟨S1x16, .f32⟩
  | 55 => ⟨S16x16, .f32⟩
  | 56 => ⟨S256, .f32⟩
  | 57 => ⟨S1x256, .f32⟩
  | 58 => ⟨S32768x32x32, .f32⟩
  | 59 => ⟨S1x16, .f32⟩
  | 60 => ⟨S256x2x16, .f32⟩
  | 61 => ⟨S512x16, .f32⟩
  | 62 => ⟨S_, .f32⟩
  | 63 => ⟨S64x8, .f32⟩
  | 64 => ⟨S_, .i32⟩
  | 65 => ⟨S1, .i32⟩
  | 66 => ⟨S64x8, .f32⟩
  | 67 => ⟨S_, .f32⟩
  | 68 => ⟨S1x8, .f32⟩
  | 69 => ⟨S_, .i32⟩
  | 70 => ⟨S1, .i32⟩
  | 71 => ⟨S_, .i32⟩
  | 72 => ⟨S1, .i32⟩
  | 73 => ⟨S2, .i32⟩
  | 74 => ⟨S1x8, .f32⟩
  | 75 => ⟨S1x32, .f32⟩
  | 76 => ⟨S1x64, .f32⟩
  | 77 => ⟨S1x64, .f32⟩
  | 78 => ⟨S512x8, .f32⟩
  | 79 => ⟨S512x2, .f32⟩
  | _ => ⟨S512x64x32x32, .f32⟩

abbrev hbmTy (i : Nat) : BufTy := match i / 128 with
  | 0 => hbmTy0_0 i
  | 1 => hbmTy0_1 i
  | 2 => hbmTy0_2 i
  | 3 => hbmTy0_3 i
  | _ => ⟨S512x64x32x32, .f32⟩

abbrev bufTy : (tb : Table) → Fin (tcTables nBuf tb) → BufTy
  | .hbm, ⟨i, _⟩ => hbmTy i
  | .local _ .vmem, ⟨0, _⟩ => ⟨S128x32x32, .f32⟩
  | .local _ .vmem, ⟨1, _⟩ => ⟨S128x32x32, .f32⟩
  | .local _ .vmem, ⟨2, _⟩ => ⟨S96x256, .bf16⟩
  | .local _ .vmem, ⟨3, _⟩ => ⟨S3x256x256, .bf16⟩
  | .local _ .vmem, ⟨4, _⟩ => ⟨S256x16, .bf16⟩
  | .local _ .vmem, ⟨5, _⟩ => ⟨S1x256, .f32⟩
  | .local _ .vmem, ⟨6, _⟩ => ⟨S1x256, .f32⟩
  | .local _ .vmem, ⟨7, _⟩ => ⟨S1x16, .f32⟩
  | .local _ .vmem, ⟨8, _⟩ => ⟨S1x2x16, .f32⟩
  | .local _ .vmem, ⟨9, _⟩ => ⟨S1x2x16, .f32⟩
  | .local _ .vmem, ⟨10, _⟩ => ⟨S512x16, .f32⟩
  | .local _ .vmem, ⟨11, _⟩ => ⟨S512x64, .f32⟩
  | .local _ .vmem, ⟨12, _⟩ => ⟨S16x32, .f32⟩
  | .local _ .vmem, ⟨13, _⟩ => ⟨S1x32, .f32⟩
  | .local _ .vmem, ⟨14, _⟩ => ⟨S32x64, .f32⟩
  | .local _ .vmem, ⟨15, _⟩ => ⟨S1x64, .f32⟩
  | .local _ .vmem, ⟨16, _⟩ => ⟨S128x64, .f32⟩
  | .local _ .vmem, ⟨17, _⟩ => ⟨S1x64, .f32⟩
  | .local _ .vmem, ⟨18, _⟩ => ⟨S64x8, .f32⟩
  | .local _ .vmem, ⟨19, _⟩ => ⟨S1x8, .f32⟩
  | .local _ .vmem, ⟨20, _⟩ => ⟨S512x8, .f32⟩
  | _, _ => ⟨S512x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_c_2 : Ref sig .tc := ⟨.hbm, 19, rfl⟩
abbrev main_c_3 : Ref sig .tc := ⟨.hbm, 20, rfl⟩
abbrev main_c_4 : Ref sig .tc := ⟨.hbm, 21, rfl⟩
abbrev main_c_5 : Ref sig .tc := ⟨.hbm, 22, rfl⟩
abbrev main_c_6 : Ref sig .tc := ⟨.hbm, 23, rfl⟩
abbrev main_c_7 : Ref sig .tc := ⟨.hbm, 24, rfl⟩
abbrev main_c_8 : Ref sig .tc := ⟨.hbm, 25, rfl⟩
abbrev main_c_9 : Ref sig .tc := ⟨.hbm, 26, rfl⟩
abbrev main_c_10 : Ref sig .tc := ⟨.hbm, 27, rfl⟩
abbrev main_c_11 : Ref sig .tc := ⟨.hbm, 28, rfl⟩
abbrev main_c_12 : Ref sig .tc := ⟨.hbm, 29, rfl⟩
abbrev main_c_13 : Ref sig .tc := ⟨.hbm, 30, rfl⟩
abbrev main_c_14 : Ref sig .tc := ⟨.hbm, 31, rfl⟩
abbrev main_c_15 : Ref sig .tc := ⟨.hbm, 32, rfl⟩
abbrev main_c_16 : Ref sig .tc := ⟨.hbm, 33, rfl⟩
abbrev main_c_17 : Ref sig .tc := ⟨.hbm, 34, rfl⟩
abbrev main_c_18 : Ref sig .tc := ⟨.hbm, 35, rfl⟩
abbrev main_c_19 : Ref sig .tc := ⟨.hbm, 36, rfl⟩
abbrev main_c_20 : Ref sig .tc := ⟨.hbm, 37, rfl⟩
abbrev main_c_21 : Ref sig .tc := ⟨.hbm, 38, rfl⟩
abbrev main_c_22 : Ref sig .tc := ⟨.hbm, 39, rfl⟩
abbrev main_c_23 : Ref sig .tc := ⟨.hbm, 40, rfl⟩
abbrev main_c_24 : Ref sig .tc := ⟨.hbm, 41, rfl⟩
abbrev main_c_25 : Ref sig .tc := ⟨.hbm, 42, rfl⟩
abbrev main_c_26 : Ref sig .tc := ⟨.hbm, 43, rfl⟩
abbrev main_c_27 : Ref sig .tc := ⟨.hbm, 44, rfl⟩
abbrev main_c_28 : Ref sig .tc := ⟨.hbm, 45, rfl⟩
abbrev main_c_29 : Ref sig .tc := ⟨.hbm, 46, rfl⟩
abbrev main_c_30 : Ref sig .tc := ⟨.hbm, 47, rfl⟩
abbrev main_c_31 : Ref sig .tc := ⟨.hbm, 48, rfl⟩
abbrev main_c_32 : Ref sig .tc := ⟨.hbm, 49, rfl⟩
abbrev main_c_33 : Ref sig .tc := ⟨.hbm, 50, rfl⟩
abbrev main_c_34 : Ref sig .tc := ⟨.hbm, 51, rfl⟩
abbrev main_c_35 : Ref sig .tc := ⟨.hbm, 52, rfl⟩
abbrev main_c_36 : Ref sig .tc := ⟨.hbm, 53, rfl⟩
abbrev main_c_37 : Ref sig .tc := ⟨.hbm, 54, rfl⟩
abbrev main_c_38 : Ref sig .tc := ⟨.hbm, 55, rfl⟩
abbrev main_c_39 : Ref sig .tc := ⟨.hbm, 56, rfl⟩
abbrev main_c_40 : Ref sig .tc := ⟨.hbm, 57, rfl⟩
abbrev main_c_41 : Ref sig .tc := ⟨.hbm, 58, rfl⟩
abbrev main_c_42 : Ref sig .tc := ⟨.hbm, 59, rfl⟩
abbrev main_c_43 : Ref sig .tc := ⟨.hbm, 60, rfl⟩
abbrev main_c_44 : Ref sig .tc := ⟨.hbm, 61, rfl⟩
abbrev main_c_45 : Ref sig .tc := ⟨.hbm, 62, rfl⟩
abbrev main_c_46 : Ref sig .tc := ⟨.hbm, 63, rfl⟩
abbrev main_c_47 : Ref sig .tc := ⟨.hbm, 64, rfl⟩
abbrev main_c_48 : Ref sig .tc := ⟨.hbm, 65, rfl⟩
abbrev main_c_49 : Ref sig .tc := ⟨.hbm, 66, rfl⟩
abbrev main_c_50 : Ref sig .tc := ⟨.hbm, 67, rfl⟩
abbrev main_c_51 : Ref sig .tc := ⟨.hbm, 68, rfl⟩
abbrev main_c_52 : Ref sig .tc := ⟨.hbm, 69, rfl⟩
abbrev main_c_53 : Ref sig .tc := ⟨.hbm, 70, rfl⟩
abbrev main_c_54 : Ref sig .tc := ⟨.hbm, 71, rfl⟩
abbrev main_c_55 : Ref sig .tc := ⟨.hbm, 72, rfl⟩
abbrev main_c_56 : Ref sig .tc := ⟨.hbm, 73, rfl⟩
abbrev main_c_57 : Ref sig .tc := ⟨.hbm, 74, rfl⟩
abbrev main_c_58 : Ref sig .tc := ⟨.hbm, 75, rfl⟩
abbrev main_c_59 : Ref sig .tc := ⟨.hbm, 76, rfl⟩
abbrev main_c_60 : Ref sig .tc := ⟨.hbm, 77, rfl⟩
abbrev main_c_61 : Ref sig .tc := ⟨.hbm, 78, rfl⟩
abbrev main_c_62 : Ref sig .tc := ⟨.hbm, 79, rfl⟩
abbrev main_c_63 : Ref sig .tc := ⟨.hbm, 80, rfl⟩
abbrev main_c_64 : Ref sig .tc := ⟨.hbm, 81, rfl⟩
abbrev main_c_65 : Ref sig .tc := ⟨.hbm, 82, rfl⟩
abbrev main_c_66 : Ref sig .tc := ⟨.hbm, 83, rfl⟩
abbrev main_c_67 : Ref sig .tc := ⟨.hbm, 84, rfl⟩
abbrev main_c_68 : Ref sig .tc := ⟨.hbm, 85, rfl⟩
abbrev main_c_69 : Ref sig .tc := ⟨.hbm, 86, rfl⟩
abbrev main_c_70 : Ref sig .tc := ⟨.hbm, 87, rfl⟩
abbrev main_cst : Ref sig .tc := ⟨.hbm, 88, rfl⟩
abbrev main_v0 : Ref sig .tc := ⟨.hbm, 89, rfl⟩
abbrev main_v1 : Ref sig .tc := ⟨.hbm, 90, rfl⟩
abbrev main_v2 : Ref sig .tc := ⟨.hbm, 91, rfl⟩
abbrev main_v3 : Ref sig .tc := ⟨.hbm, 92, rfl⟩
abbrev main_v4 : Ref sig .tc := ⟨.hbm, 93, rfl⟩
abbrev main_c_71 : Ref sig .tc := ⟨.hbm, 94, rfl⟩
abbrev main_v5 : Ref sig .tc := ⟨.hbm, 95, rfl⟩
abbrev main_v6 : Ref sig .tc := ⟨.hbm, 96, rfl⟩
abbrev main_v7 : Ref sig .tc := ⟨.hbm, 97, rfl⟩
abbrev main_c_72 : Ref sig .tc := ⟨.hbm, 98, rfl⟩
abbrev main_v8 : Ref sig .tc := ⟨.hbm, 99, rfl⟩
abbrev main_v9 : Ref sig .tc := ⟨.hbm, 100, rfl⟩
abbrev main_v10 : Ref sig .tc := ⟨.hbm, 101, rfl⟩
abbrev main_v11 : Ref sig .tc := ⟨.hbm, 102, rfl⟩
abbrev main_v12 : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev main_c_73 : Ref sig .tc := ⟨.hbm, 110, rfl⟩
abbrev main_v19 : Ref sig .tc := ⟨.hbm, 111, rfl⟩
abbrev main_v20 : Ref sig .tc := ⟨.hbm, 112, rfl⟩
abbrev main_v21 : Ref sig .tc := ⟨.hbm, 113, rfl⟩
abbrev main_c_74 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_c_75 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_c_76 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_c_77 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_c_78 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_c_79 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_c_80 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_c_81 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_c_82 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_c_83 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_c_84 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_c_85 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_c_86 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_c_87 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_c_88 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_cst_89 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_c_90 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_c_91 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_c_92 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_c_93 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_c_94 : Ref sig .tc := ⟨.hbm, 267, rfl⟩
abbrev main_v155 : Ref sig .tc := ⟨.hbm, 268, rfl⟩
abbrev main_v156 : Ref sig .tc := ⟨.hbm, 269, rfl⟩
abbrev main_v157 : Ref sig .tc := ⟨.hbm, 270, rfl⟩
abbrev main_c_95 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_c_96 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_c_97 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_c_98 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_c_99 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_c_100 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_c_101 : Ref sig .tc := ⟨.hbm, 313, rfl⟩
abbrev main_v194 : Ref sig .tc := ⟨.hbm, 314, rfl⟩
abbrev main_v195 : Ref sig .tc := ⟨.hbm, 315, rfl⟩
abbrev main_v196 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_c_102 : Ref sig .tc := ⟨.hbm, 326, rfl⟩
abbrev main_v206 : Ref sig .tc := ⟨.hbm, 327, rfl⟩
abbrev main_v207 : Ref sig .tc := ⟨.hbm, 328, rfl⟩
abbrev main_v208 : Ref sig .tc := ⟨.hbm, 329, rfl⟩
abbrev main_c_103 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_c_104 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_v221 : Ref sig .tc := ⟨.hbm, 344, rfl⟩
abbrev main_v222 : Ref sig .tc := ⟨.hbm, 345, rfl⟩
abbrev main_v223 : Ref sig .tc := ⟨.hbm, 346, rfl⟩
abbrev main_c_105 : Ref sig .tc := ⟨.hbm, 347, rfl⟩
abbrev main_v224 : Ref sig .tc := ⟨.hbm, 348, rfl⟩
abbrev main_v225 : Ref sig .tc := ⟨.hbm, 349, rfl⟩
abbrev main_v226 : Ref sig .tc := ⟨.hbm, 350, rfl⟩
abbrev main_c_106 : Ref sig .tc := ⟨.hbm, 351, rfl⟩
abbrev main_v227 : Ref sig .tc := ⟨.hbm, 352, rfl⟩
abbrev main_v228 : Ref sig .tc := ⟨.hbm, 353, rfl⟩
abbrev main_v229 : Ref sig .tc := ⟨.hbm, 354, rfl⟩
abbrev main_c_107 : Ref sig .tc := ⟨.hbm, 355, rfl⟩
abbrev main_v230 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_c_108 : Ref sig .tc := ⟨.hbm, 368, rfl⟩
abbrev main_v242 : Ref sig .tc := ⟨.hbm, 369, rfl⟩
abbrev main_v243 : Ref sig .tc := ⟨.hbm, 370, rfl⟩
abbrev main_v244 : Ref sig .tc := ⟨.hbm, 371, rfl⟩
abbrev main_c_109 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_c_110 : Ref sig .tc := ⟨.hbm, 376, rfl⟩
abbrev main_v248 : Ref sig .tc := ⟨.hbm, 377, rfl⟩
abbrev main_v249 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_v255 : Ref sig .tc := ⟨.hbm, 384, rfl⟩
abbrev main_v256 : Ref sig .tc := ⟨.hbm, 385, rfl⟩
abbrev main_v257 : Ref sig .tc := ⟨.hbm, 386, rfl⟩
abbrev main_v258 : Ref sig .tc := ⟨.hbm, 387, rfl⟩
abbrev main_v259 : Ref sig .tc := ⟨.hbm, 388, rfl⟩
abbrev main_c_111 : Ref sig .tc := ⟨.hbm, 389, rfl⟩
abbrev main_v260 : Ref sig .tc := ⟨.hbm, 390, rfl⟩
abbrev main_v261 : Ref sig .tc := ⟨.hbm, 391, rfl⟩
abbrev main_v262 : Ref sig .tc := ⟨.hbm, 392, rfl⟩
abbrev main_c_112 : Ref sig .tc := ⟨.hbm, 393, rfl⟩
abbrev main_v263 : Ref sig .tc := ⟨.hbm, 394, rfl⟩
abbrev main_v264 : Ref sig .tc := ⟨.hbm, 395, rfl⟩
abbrev main_v265 : Ref sig .tc := ⟨.hbm, 396, rfl⟩
abbrev main_c_113 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_v271 : Ref sig .tc := ⟨.hbm, 403, rfl⟩
abbrev main_v272 : Ref sig .tc := ⟨.hbm, 404, rfl⟩
abbrev main_v273 : Ref sig .tc := ⟨.hbm, 405, rfl⟩
abbrev main_v274 : Ref sig .tc := ⟨.hbm, 406, rfl⟩
abbrev main_v275 : Ref sig .tc := ⟨.hbm, 407, rfl⟩
abbrev main_v276 : Ref sig .tc := ⟨.hbm, 408, rfl⟩
abbrev main_v277 : Ref sig .tc := ⟨.hbm, 409, rfl⟩
abbrev main_c_114 : Ref sig .tc := ⟨.hbm, 410, rfl⟩
abbrev main_v278 : Ref sig .tc := ⟨.hbm, 411, rfl⟩
abbrev main_v279 : Ref sig .tc := ⟨.hbm, 412, rfl⟩
abbrev main_v280 : Ref sig .tc := ⟨.hbm, 413, rfl⟩
abbrev main_c_115 : Ref sig .tc := ⟨.hbm, 414, rfl⟩
abbrev main_v281 : Ref sig .tc := ⟨.hbm, 415, rfl⟩
abbrev main_v282 : Ref sig .tc := ⟨.hbm, 416, rfl⟩
abbrev main_v283 : Ref sig .tc := ⟨.hbm, 417, rfl⟩
abbrev main_c_116 : Ref sig .tc := ⟨.hbm, 418, rfl⟩
abbrev main_v284 : Ref sig .tc := ⟨.hbm, 419, rfl⟩
abbrev main_v285 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_v289 : Ref sig .tc := ⟨.hbm, 424, rfl⟩
abbrev main_v290 : Ref sig .tc := ⟨.hbm, 425, rfl⟩
abbrev main_v291 : Ref sig .tc := ⟨.hbm, 426, rfl⟩
abbrev main_v292 : Ref sig .tc := ⟨.hbm, 427, rfl⟩
abbrev main_v293 : Ref sig .tc := ⟨.hbm, 428, rfl⟩
abbrev main_v294 : Ref sig .tc := ⟨.hbm, 429, rfl⟩
abbrev main_cst_117 : Ref sig .tc := ⟨.hbm, 430, rfl⟩
abbrev main_v295 : Ref sig .tc := ⟨.hbm, 431, rfl⟩
abbrev main_v296 : Ref sig .tc := ⟨.hbm, 432, rfl⟩
abbrev main_v297 : Ref sig .tc := ⟨.hbm, 433, rfl⟩
abbrev main_v298 : Ref sig .tc := ⟨.hbm, 434, rfl⟩
abbrev main_v299 : Ref sig .tc := ⟨.hbm, 435, rfl⟩
abbrev main_v300 : Ref sig .tc := ⟨.hbm, 436, rfl⟩
abbrev main_v301 : Ref sig .tc := ⟨.hbm, 437, rfl⟩
abbrev main_v302 : Ref sig .tc := ⟨.hbm, 438, rfl⟩
abbrev main_v303 : Ref sig .tc := ⟨.hbm, 439, rfl⟩
abbrev main_v304 : Ref sig .tc := ⟨.hbm, 440, rfl⟩
abbrev main_v305 : Ref sig .tc := ⟨.hbm, 441, rfl⟩
abbrev main_v306 : Ref sig .tc := ⟨.hbm, 442, rfl⟩
abbrev main_v307 : Ref sig .tc := ⟨.hbm, 443, rfl⟩
abbrev main_v308 : Ref sig .tc := ⟨.hbm, 444, rfl⟩
abbrev main_v309 : Ref sig .tc := ⟨.hbm, 445, rfl⟩
abbrev main_cst_118 : Ref sig .tc := ⟨.hbm, 446, rfl⟩
abbrev main_v310 : Ref sig .tc := ⟨.hbm, 447, rfl⟩
abbrev main_c_119 : Ref sig .tc := ⟨.hbm, 448, rfl⟩
abbrev main_v311 : Ref sig .tc := ⟨.hbm, 449, rfl⟩
abbrev main_v312 : Ref sig .tc := ⟨.hbm, 450, rfl⟩
abbrev main_cst_120 : Ref sig .tc := ⟨.hbm, 451, rfl⟩
abbrev main_v313 : Ref sig .tc := ⟨.hbm, 452, rfl⟩
abbrev main_c_121 : Ref sig .tc := ⟨.hbm, 453, rfl⟩
abbrev main_v314 : Ref sig .tc := ⟨.hbm, 454, rfl⟩
abbrev main_c_122 : Ref sig .tc := ⟨.hbm, 455, rfl⟩
abbrev main_v315 : Ref sig .tc := ⟨.hbm, 456, rfl⟩
abbrev main_v316 : Ref sig .tc := ⟨.hbm, 457, rfl⟩
abbrev main_v317 : Ref sig .tc := ⟨.hbm, 458, rfl⟩
abbrev main_v318 : Ref sig .tc := ⟨.hbm, 459, rfl⟩
abbrev main_v319 : Ref sig .tc := ⟨.hbm, 460, rfl⟩
abbrev main_v320 : Ref sig .tc := ⟨.hbm, 461, rfl⟩
abbrev main_v321 : Ref sig .tc := ⟨.hbm, 462, rfl⟩
abbrev main_v322 : Ref sig .tc := ⟨.hbm, 463, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

abbrev stage1_0 : Fin 1 → Memref sig .tc .vmem S512x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S64x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S512x8 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== ReferenceIdeal.lean ====
abbrev S512x64x32x32 : Shape := ⟨4, ![512, 64, 32, 32]⟩
abbrev S512x64 : Shape := ⟨2, ![512, 64]⟩
abbrev S8x1x3x3 : Shape := ⟨4, ![8, 1, 3, 3]⟩
abbrev S8 : Shape := ⟨1, ![8]⟩
abbrev S16x8x3x3 : Shape := ⟨4, ![16, 8, 3, 3]⟩
abbrev S16 : Shape := ⟨1, ![16]⟩
abbrev S16x16 : Shape := ⟨2, ![16, 16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S32768x1x32x32 : Shape := ⟨4, ![32768, 1, 32, 32]⟩
abbrev S_ : Shape := ⟨0, ![]⟩
abbrev S32768x1x34x34 : Shape := ⟨4, ![32768, 1, 34, 34]⟩
abbrev S8x1x1x1 : Shape := ⟨4, ![8, 1, 1, 1]⟩
abbrev S8x1 : Shape := ⟨2, ![8, 1]⟩
abbrev S8x32768x32x32 : Shape := ⟨4, ![8, 32768, 32, 32]⟩
abbrev S32768x8x32x32 : Shape := ⟨4, ![32768, 8, 32, 32]⟩
abbrev S1x8x1x1 : Shape := ⟨4, ![1, 8, 1, 1]⟩
abbrev S32768x8x16x16 : Shape := ⟨4, ![32768, 8, 16, 16]⟩
abbrev S32768x8x18x18 : Shape := ⟨4, ![32768, 8, 18, 18]⟩
abbrev S16x8x1x1 : Shape := ⟨4, ![16, 8, 1, 1]⟩
abbrev S16x8 : Shape := ⟨2, ![16, 8]⟩
abbrev S16x32768x16x16 : Shape := ⟨4, ![16, 32768, 16, 16]⟩
abbrev S32768x16x16x16 : Shape := ⟨4, ![32768, 16, 16, 16]⟩
abbrev S1x16x1x1 : Shape := ⟨4, ![1, 16, 1, 1]⟩
abbrev S32768x16 : Shape := ⟨2, ![32768, 16]⟩
abbrev S1x16 : Shape := ⟨2, ![1, 16]⟩
abbrev S512x64x63 : Shape := ⟨3, ![512, 64, 63]⟩
abbrev S2064384 : Shape := ⟨1, ![2064384]⟩
abbrev S32768x32 : Shape := ⟨2, ![32768, 32]⟩
abbrev S32768 : Shape := ⟨1, ![32768]⟩
abbrev S2097152 : Shape := ⟨1, ![2097152]⟩
abbrev S2097152x1 : Shape := ⟨2, ![2097152, 1]⟩
abbrev S2097152x32 : Shape := ⟨2, ![2097152, 32]⟩
abbrev S1x32 : Shape := ⟨2, ![1, 32]⟩
abbrev S32768x64 : Shape := ⟨2, ![32768, 64]⟩
abbrev S2097152x64 : Shape := ⟨2, ![2097152, 64]⟩
abbrev S1x64 : Shape := ⟨2, ![1, 64]⟩
abbrev S512x64x64 : Shape := ⟨3, ![512, 64, 64]⟩
abbrev S512x128 : Shape := ⟨2, ![512, 128]⟩
abbrev S512x2 : Shape := ⟨2, ![512, 2]⟩
abbrev S1x2 : Shape := ⟨2, ![1, 2]⟩

abbrev nBuf : Space → Nat
  | .hbm => 352
  | .vmem => 0
  | .smem => 0
  | _ => 0

abbrev hbmTy0_0 (i : Nat) : BufTy := match i % 128 with
  | 0 => ⟨S512x64x32x32, .f32⟩
  | 1 => ⟨S512x64, .f32⟩
  | 2 => ⟨S8x1x3x3, .f32⟩
  | 3 => ⟨S8, .f32⟩
  | 4 => ⟨S16x8x3x3, .f32⟩
  | 5 => ⟨S16, .f32⟩
  | 6 => ⟨S16x16, .f32⟩
  | 7 => ⟨S16, .f32⟩
  | 8 => ⟨S16x32, .f32⟩
  | 9 => ⟨S32, .f32⟩
  | 10 => ⟨S32x64, .f32⟩
  | 11 => ⟨S64, .f32⟩
  | 12 => ⟨S128x64, .f32⟩
  | 13 => ⟨S64, .f32⟩
  | 14 => ⟨S64x2, .f32⟩
  | 15 => ⟨S2, .f32⟩
  | 16 => ⟨S32768x1x32x32, .f32⟩
  | 17 => ⟨S_, .i32⟩
  | 18 => ⟨S_, .f32⟩
  | 19 => ⟨S32768x1x34x34, .f32⟩
  | 20 => ⟨S32768x1x32x32, .f32⟩
  | 21 => ⟨S8x1x1x1, .f32⟩
  | 22 => ⟨S8x1, .f32⟩
  | 23 => ⟨S8x32768x32x32, .f32⟩
  | 24 => ⟨S32768x8x32x32, .f32⟩
  | 25 => ⟨S_, .f32⟩
  | 26 => ⟨S32768x8x32x32, .f32⟩
  | 27 => ⟨S32768x8x32x32, .f32⟩
  | 28 => ⟨S32768x1x32x32, .f32⟩
  | 29 => ⟨S8x1x1x1, .f32⟩
  | 30 => ⟨S8x1, .f32⟩
  | 31 => ⟨S8x32768x32x32, .f32⟩
  | 32 => ⟨S32768x8x32x32, .f32⟩
  | 33 => ⟨S32768x8x32x32, .f32⟩
  | 34 => ⟨S32768x1x32x32, .f32⟩
  | 35 => ⟨S8x1x1x1, .f32⟩
  | 36 => ⟨S8x1, .f32⟩
  | 37 => ⟨S8x32768x32x32, .f32⟩
  | 38 => ⟨S32768x8x32x32, .f32⟩
  | 39 => ⟨S32768x8x32x32, .f32⟩
  | 40 => ⟨S32768x1x32x32, .f32⟩
  | 41 => ⟨S8x1x1x1, .f32⟩
  | 42 => ⟨S8x1, .f32⟩
  | 43 => ⟨S8x32768x32x32, .f32⟩
  | 44 => ⟨S32768x8x32x32, .f32⟩
  | 45 => ⟨S32768x8x32x32, .f32⟩
  | 46 => ⟨S32768x1x32x32, .f32⟩
  | 47 => ⟨S8x1x1x1, .f32⟩
  | 48 => ⟨S8x1, .f32⟩
  | 49 => ⟨S8x32768x32x32, .f32⟩
  | 50 => ⟨S32768x8x32x32, .f32⟩
  | 51 => ⟨S32768x8x32x32, .f32⟩
  | 52 => ⟨S32768x1x32x32, .f32⟩
  | 53 => ⟨S8x1x1x1, .f32⟩
  | 54 => ⟨S8x1, .f32⟩
  | 55 => ⟨S8x32768x32x32, .f32⟩
  | 56 => ⟨S32768x8x32x32, .f32⟩
  | 57 => ⟨S32768x8x32x32, .f32⟩
  | 58 => ⟨S32768x1x32x32, .f32⟩
  | 59 => ⟨S8x1x1x1, .f32⟩
  | 60 => ⟨S8x1, .f32⟩
  | 61 => ⟨S8x32768x32x32, .f32⟩
  | 62 => ⟨S32768x8x32x32, .f32⟩
  | 63 => ⟨S32768x8x32x32, .f32⟩
  | 64 => ⟨S32768x1x32x32, .f32⟩
  | 65 => ⟨S8x1x1x1, .f32⟩
  | 66 => ⟨S8x1, .f32⟩
  | 67 => ⟨S8x32768x32x32, .f32⟩
  | 68 => ⟨S32768x8x32x32, .f32⟩
  | 69 => ⟨S32768x8x32x32, .f32⟩
  | 70 => ⟨S32768x1x32x32, .f32⟩
  | 71 => ⟨S8x1x1x1, .f32⟩
  | 72 => ⟨S8x1, .f32⟩
  | 73 => ⟨S8x32768x32x32, .f32⟩
  | 74 => ⟨S32768x8x32x32, .f32⟩
  | 75 => ⟨S32768x8x32x32, .f32⟩
  | 76 => ⟨S1x8x1x1, .f32⟩
  | 77 => ⟨S32768x8x32x32, .f32⟩
  | 78 => ⟨S32768x8x32x32, .f32⟩
  | 79 => ⟨S_, .f32⟩
  | 80 => ⟨S32768x8x32x32, .f32⟩
  | 81 => ⟨S32768x8x32x32, .f32⟩
  | 82 => ⟨S32768x8x16x16, .f32⟩
  | 83 => ⟨S32768x8x16x16, .f32⟩
  | 84 => ⟨S32768x8x16x16, .f32⟩
  | 85 => ⟨S32768x8x16x16, .f32⟩
  | 86 => ⟨S32768x8x16x16, .f32⟩
  | 87 => ⟨S32768x8x16x16, .f32⟩
  | 88 => ⟨S32768x8x16x16, .f32⟩
  | 89 => ⟨S_, .i32⟩
  | 90 => ⟨S_, .f32⟩
  | 91 => ⟨S32768x8x18x18, .f32⟩
  | 92 => ⟨S32768x8x16x16, .f32⟩
  | 93 => ⟨S16x8x1x1, .f32⟩
  | 94 => ⟨S16x8, .f32⟩
  | 95 => ⟨S16x32768x16x16, .f32⟩
  | 96 => ⟨S32768x16x16x16, .f32⟩
  | 97 => ⟨S_, .f32⟩
  | 98 => ⟨S32768x16x16x16, .f32⟩
  | 99 => ⟨S32768x16x16x16, .f32⟩
  | 100 => ⟨S32768x8x16x16, .f32⟩
  | 101 => ⟨S16x8x1x1, .f32⟩
  | 102 => ⟨S16x8, .f32⟩
  | 103 => ⟨S16x32768x16x16, .f32⟩
  | 104 => ⟨S32768x16x16x16, .f32⟩
  | 105 => ⟨S32768x16x16x16, .f32⟩
  | 106 => ⟨S32768x8x16x16, .f32⟩
  | 107 => ⟨S16x8x1x1, .f32⟩
  | 108 => ⟨S16x8, .f32⟩
  | 109 => ⟨S16x32768x16x16, .f32⟩
  | 110 => ⟨S32768x16x16x16, .f32⟩
  | 111 => ⟨S32768x16x16x16, .f32⟩
  | 112 => ⟨S32768x8x16x16, .f32⟩
  | 113 => ⟨S16x8x1x1, .f32⟩
  | 114 => ⟨S16x8, .f32⟩
  | 115 => ⟨S16x32768x16x16, .f32⟩
  | 116 => ⟨S32768x16x16x16, .f32⟩
  | 117 => ⟨S32768x16x16x16, .f32⟩
  | 118 => ⟨S32768x8x16x16, .f32⟩
  | 119 => ⟨S16x8x1x1, .f32⟩
  | 120 => ⟨S16x8, .f32⟩
  | 121 => ⟨S16x32768x16x16, .f32⟩
  | 122 => ⟨S32768x16x16x16, .f32⟩
  | 123 => ⟨S32768x16x16x16, .f32⟩
  | 124 => ⟨S32768x8x16x16, .f32⟩
  | 125 => ⟨S16x8x1x1, .f32⟩
  | 126 => ⟨S16x8, .f32⟩
  | 127 => ⟨S16x32768x16x16, .f32⟩
  | _ => ⟨S512x64x32x32, .f32⟩

abbrev hbmTy0_1 (i : Nat) : BufTy := match i % 128 with
  | 0 => ⟨S32768x16x16x16, .f32⟩
  | 1 => ⟨S32768x16x16x16, .f32⟩
  | 2 => ⟨S32768x8x16x16, .f32⟩
  | 3 => ⟨S16x8x1x1, .f32⟩
  | 4 => ⟨S16x8, .f32⟩
  | 5 => ⟨S16x32768x16x16, .f32⟩
  | 6 => ⟨S32768x16x16x16, .f32⟩
  | 7 => ⟨S32768x16x16x16, .f32⟩
  | 8 => ⟨S32768x8x16x16, .f32⟩
  | 9 => ⟨S16x8x1x1, .f32⟩
  | 10 => ⟨S16x8, .f32⟩
  | 11 => ⟨S16x32768x16x16, .f32⟩
  | 12 => ⟨S32768x16x16x16, .f32⟩
  | 13 => ⟨S32768x16x16x16, .f32⟩
  | 14 => ⟨S32768x8x16x16, .f32⟩
  | 15 => ⟨S16x8x1x1, .f32⟩
  | 16 => ⟨S16x8, .f32⟩
  | 17 => ⟨S16x32768x16x16, .f32⟩
  | 18 => ⟨S32768x16x16x16, .f32⟩
  | 19 => ⟨S32768x16x16x16, .f32⟩
  | 20 => ⟨S1x16x1x1, .f32⟩
  | 21 => ⟨S32768x16x16x16, .f32⟩
  | 22 => ⟨S32768x16x16x16, .f32⟩
  | 23 => ⟨S_, .f32⟩
  | 24 => ⟨S32768x16x16x16, .f32⟩
  | 25 => ⟨S32768x16x16x16, .f32⟩
  | 26 => ⟨S_, .f32⟩
  | 27 => ⟨S32768x16, .f32⟩
  | 28 => ⟨S_, .f32⟩
  | 29 => ⟨S32768x16, .f32⟩
  | 30 => ⟨S32768x16, .f32⟩
  | 31 => ⟨S32768x16, .f32⟩
  | 32 => ⟨S1x16, .f32⟩
  | 33 => ⟨S32768x16, .f32⟩
  | 34 => ⟨S32768x16, .f32⟩
  | 35 => ⟨S_, .f32⟩
  | 36 => ⟨S32768x16, .f32⟩
  | 37 => ⟨S32768x16, .f32⟩
  | 38 => ⟨S512x64x63, .i32⟩
  | 39 => ⟨S512x64x63, .i32⟩
  | 40 => ⟨S512x64x63, .i32⟩
  | 41 => ⟨S512x64x63, .i1⟩
  | 42 => ⟨S_, .i32⟩
  | 43 => ⟨S512x64x63, .i32⟩
  | 44 => ⟨S512x64x63, .i32⟩
  | 45 => ⟨S512x64x63, .i32⟩
  | 46 => ⟨S_, .i32⟩
  | 47 => ⟨S512x64x63, .i32⟩
  | 48 => ⟨S512x64x63, .i32⟩
  | 49 => ⟨S512x64x63, .i32⟩
  | 50 => ⟨S2064384, .i32⟩
  | 51 => ⟨S_, .i32⟩
  | 52 => ⟨S512x64x63, .i32⟩
  | 53 => ⟨S512x64x63, .i32⟩
  | 54 => ⟨S512x64x63, .i32⟩
  | 55 => ⟨S2064384, .i32⟩
  | 56 => ⟨S32768x32, .f32⟩
  | 57 => ⟨S32768, .i32⟩
  | 58 => ⟨S2097152, .i32⟩
  | 59 => ⟨S2097152, .i32⟩
  | 60 => ⟨S_, .f32⟩
  | 61 => ⟨S32768, .f32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S2097152x1, .i32⟩
  | 70 => ⟨S_, .f32⟩
  | 71 => ⟨S2097152, .f32⟩
  | 72 => ⟨S32768, .f32⟩
  | 73 => ⟨S_, .f32⟩
  | 74 => ⟨S32768, .f32⟩
  | 75 => ⟨S32768, .i1⟩
  | 76 => ⟨S_, .f32⟩
  | 77 => ⟨S32768, .f32⟩
  | 78 => ⟨S32768, .f32⟩
  | 79 => ⟨S_, .f32⟩
  | 80 => ⟨S_, .f32⟩
  | 81 => ⟨S32768, .f32⟩
  | 82 => ⟨S32768, .f32⟩
  | 83 => ⟨S_, .i32⟩
  | 84 => ⟨S2097152, .i32⟩
  | 85 => ⟨S2097152, .i1⟩
  | 86 => ⟨S_, .i32⟩
  | 87 => ⟨S2097152, .i32⟩
  | 88 => ⟨S2097152, .i32⟩
  | 89 => ⟨S2097152, .i32⟩
  | 90 => ⟨S2097152x1, .i32⟩
  | 91 => ⟨S2097152, .f32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S2097152x1, .i32⟩
  | 100 => ⟨S2097152, .f32⟩
  | 101 => ⟨S2097152, .f32⟩
  | 102 => ⟨S_, .i32⟩
  | 103 => ⟨S2097152, .i32⟩
  | 104 => ⟨S2097152, .i1⟩
  | 105 => ⟨S_, .i32⟩
  | 106 => ⟨S2097152, .i32⟩
  | 107 => ⟨S2097152, .i32⟩
  | 108 => ⟨S2097152, .i32⟩
  | 109 => ⟨S2097152x1, .i32⟩
  | 110 => ⟨S2097152x32, .f32⟩
  | 111 => ⟨S2097152x1, .f32⟩
  | 112 => ⟨S2097152x32, .f32⟩
  | 113 => ⟨S2097152x32, .f32⟩
  | 114 => ⟨S_, .f32⟩
  | 115 => ⟨S32768x32, .f32⟩
  | 116 => ⟨S_, .i32⟩
  | 117 => ⟨S2097152, .i32⟩
  | 118 => ⟨S2097152, .i1⟩
  | 119 => ⟨S_, .i32⟩
  | 120 => ⟨S2097152, .i32⟩
  | 121 => ⟨S2097152, .i32⟩
  | 122 => ⟨S2097152, .i32⟩
  | 123 => ⟨S2097152x1, .i32⟩
  | 124 => ⟨S32768x32, .f32⟩
  | 125 => ⟨S1x32, .f32⟩
  | 126 => ⟨S32768x32, .f32⟩
  | 127 => ⟨S32768x32, .f32⟩
  | _ => ⟨S512x64x32x32, .f32⟩

abbrev hbmTy0_2 (i : Nat) : BufTy := match i % 128 with
  | 0 => ⟨S_, .f32⟩
  | 1 => ⟨S32768x32, .f32⟩
  | 2 => ⟨S32768x32, .f32⟩
  | 3 => ⟨S32768x64, .f32⟩
  | 4 => ⟨S32768, .i32⟩
  | 5 => ⟨S2097152, .i32⟩
  | 6 => ⟨S2097152, .i32⟩
  | 7 => ⟨S_, .f32⟩
  | 8 => ⟨S32768, .f32⟩
  | 9 => ⟨S_, .i32⟩
  | 10 => ⟨S2097152, .i32⟩
  | 11 => ⟨S2097152, .i1⟩
  | 12 => ⟨S_, .i32⟩
  | 13 => ⟨S2097152, .i32⟩
  | 14 => ⟨S2097152, .i32⟩
  | 15 => ⟨S2097152, .i32⟩
  | 16 => ⟨S2097152x1, .i32⟩
  | 17 => ⟨S_, .f32⟩
  | 18 => ⟨S2097152, .f32⟩
  | 19 => ⟨S32768, .f32⟩
  | 20 => ⟨S_, .f32⟩
  | 21 => ⟨S32768, .f32⟩
  | 22 => ⟨S32768, .i1⟩
  | 23 => ⟨S_, .f32⟩
  | 24 => ⟨S32768, .f32⟩
  | 25 => ⟨S32768, .f32⟩
  | 26 => ⟨S_, .f32⟩
  | 27 => ⟨S_, .f32⟩
  | 28 => ⟨S32768, .f32⟩
  | 29 => ⟨S32768, .f32⟩
  | 30 => ⟨S_, .i32⟩
  | 31 => ⟨S2097152, .i32⟩
  | 32 => ⟨S2097152, .i1⟩
  | 33 => ⟨S_, .i32⟩
  | 34 => ⟨S2097152, .i32⟩
  | 35 => ⟨S2097152, .i32⟩
  | 36 => ⟨S2097152, .i32⟩
  | 37 => ⟨S2097152x1, .i32⟩
  | 38 => ⟨S2097152, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S2097152x1, .i32⟩
  | 47 => ⟨S2097152, .f32⟩
  | 48 => ⟨S2097152, .f32⟩
  | 49 => ⟨S_, .i32⟩
  | 50 => ⟨S2097152, .i32⟩
  | 51 => ⟨S2097152, .i1⟩
  | 52 => ⟨S_, .i32⟩
  | 53 => ⟨S2097152, .i32⟩
  | 54 => ⟨S2097152, .i32⟩
  | 55 => ⟨S2097152, .i32⟩
  | 56 => ⟨S2097152x1, .i32⟩
  | 57 => ⟨S2097152x64, .f32⟩
  | 58 => ⟨S2097152x1, .f32⟩
  | 59 => ⟨S2097152x64, .f32⟩
  | 60 => ⟨S2097152x64, .f32⟩
  | 61 => ⟨S_, .f32⟩
  | 62 => ⟨S32768x64, .f32⟩
  | 63 => ⟨S_, .i32⟩
  | 64 => ⟨S2097152, .i32⟩
  | 65 => ⟨S2097152, .i1⟩
  | 66 => ⟨S_, .i32⟩
  | 67 => ⟨S2097152, .i32⟩
  | 68 => ⟨S2097152, .i32⟩
  | 69 => ⟨S2097152, .i32⟩
  | 70 => ⟨S2097152x1, .i32⟩
  | 71 => ⟨S32768x64, .f32⟩
  | 72 => ⟨S1x64, .f32⟩
  | 73 => ⟨S32768x64, .f32⟩
  | 74 => ⟨S32768x64, .f32⟩
  | 75 => ⟨S_, .f32⟩
  | 76 => ⟨S32768x64, .f32⟩
  | 77 => ⟨S32768x64, .f32⟩
  | 78 => ⟨S512x64x64, .f32⟩
  | 79 => ⟨S_, .f32⟩
  | 80 => ⟨S512x64, .f32⟩
  | 81 => ⟨S_, .f32⟩
  | 82 => ⟨S512x64, .f32⟩
  | 83 => ⟨S512x64, .f32⟩
  | 84 => ⟨S512x128, .f32⟩
  | 85 => ⟨S512x64, .f32⟩
  | 86 => ⟨S1x64, .f32⟩
  | 87 => ⟨S512x64, .f32⟩
  | 88 => ⟨S512x64, .f32⟩
  | 89 => ⟨S_, .f32⟩
  | 90 => ⟨S512x64, .f32⟩
  | 91 => ⟨S512x64, .f32⟩
  | 92 => ⟨S512x2, .f32⟩
  | 93 => ⟨S1x2, .f32⟩
  | 94 => ⟨S512x2, .f32⟩
  | 95 => ⟨S512x2, .f32⟩
  | _ => ⟨S512x64x32x32, .f32⟩

abbrev hbmTy (i : Nat) : BufTy := match i / 128 with
  | 0 => hbmTy0_0 i
  | 1 => hbmTy0_1 i
  | 2 => hbmTy0_2 i
  | _ => ⟨S512x64x32x32, .f32⟩

abbrev bufTy : (tb : Table) → Fin (tcTables nBuf tb) → BufTy
  | .hbm, ⟨i, _⟩ => hbmTy i
  | _, _ => ⟨S512x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_1 : Ref sig .tc := ⟨.hbm, 89, rfl⟩
abbrev main_call1_v0 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_2 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_cst_3 : Ref sig .tc := ⟨.hbm, 151, rfl⟩
abbrev main_v128 : Ref sig .tc := ⟨.hbm, 152, rfl⟩
abbrev main_v129 : Ref sig .tc := ⟨.hbm, 153, rfl⟩
abbrev main_cst_4 : Ref sig .tc := ⟨.hbm, 154, rfl⟩
abbrev main_v130 : Ref sig .tc := ⟨.hbm, 155, rfl⟩
abbrev main_cst_5 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_cst_6 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_c_7 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_c_8 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_c_9 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_cst_10 : Ref sig .tc := ⟨.hbm, 188, rfl⟩
abbrev main_v158 : Ref sig .tc := ⟨.hbm, 189, rfl⟩
abbrev main_c_11 : Ref sig .tc := ⟨.hbm, 190, rfl⟩
abbrev main_v159 : Ref sig .tc := ⟨.hbm, 191, rfl⟩
abbrev main_v160 : Ref sig .tc := ⟨.hbm, 192, rfl⟩
abbrev main_c_12 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_cst_13 : Ref sig .tc := ⟨.hbm, 198, rfl⟩
abbrev main_v165 : Ref sig .tc := ⟨.hbm, 199, rfl⟩
abbrev main_v166 : Ref sig .tc := ⟨.hbm, 200, rfl⟩
abbrev main_cst_14 : Ref sig .tc := ⟨.hbm, 201, rfl⟩
abbrev main_v167 : Ref sig .tc := ⟨.hbm, 202, rfl⟩
abbrev main_v168 : Ref sig .tc := ⟨.hbm, 203, rfl⟩
abbrev main_cst_15 : Ref sig .tc := ⟨.hbm, 204, rfl⟩
abbrev main_v169 : Ref sig .tc := ⟨.hbm, 205, rfl⟩
abbrev main_v170 : Ref sig .tc := ⟨.hbm, 206, rfl⟩
abbrev main_cst_16 : Ref sig .tc := ⟨.hbm, 207, rfl⟩
abbrev main_call3_v0 : Ref sig .tc := ⟨.hbm, 208, rfl⟩
abbrev main_call3_v1 : Ref sig .tc := ⟨.hbm, 209, rfl⟩
abbrev main_v171 : Ref sig .tc := ⟨.hbm, 210, rfl⟩
abbrev main_c_17 : Ref sig .tc := ⟨.hbm, 211, rfl⟩
abbrev main_v172 : Ref sig .tc := ⟨.hbm, 212, rfl⟩
abbrev main_v173 : Ref sig .tc := ⟨.hbm, 213, rfl⟩
abbrev main_c_18 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_c_19 : Ref sig .tc := ⟨.hbm, 220, rfl⟩
abbrev main_v179 : Ref sig .tc := ⟨.hbm, 221, rfl⟩
abbrev main_v180 : Ref sig .tc := ⟨.hbm, 222, rfl⟩
abbrev main_c_20 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_c_21 : Ref sig .tc := ⟨.hbm, 230, rfl⟩
abbrev main_v187 : Ref sig .tc := ⟨.hbm, 231, rfl⟩
abbrev main_v188 : Ref sig .tc := ⟨.hbm, 232, rfl⟩
abbrev main_c_22 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_cst_23 : Ref sig .tc := ⟨.hbm, 242, rfl⟩
abbrev main_v197 : Ref sig .tc := ⟨.hbm, 243, rfl⟩
abbrev main_c_24 : Ref sig .tc := ⟨.hbm, 244, rfl⟩
abbrev main_v198 : Ref sig .tc := ⟨.hbm, 245, rfl⟩
abbrev main_v199 : Ref sig .tc := ⟨.hbm, 246, rfl⟩
abbrev main_c_25 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_cst_26 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_cst_27 : Ref sig .tc := ⟨.hbm, 263, rfl⟩
abbrev main_v214 : Ref sig .tc := ⟨.hbm, 264, rfl⟩
abbrev main_c_28 : Ref sig .tc := ⟨.hbm, 265, rfl⟩
abbrev main_v215 : Ref sig .tc := ⟨.hbm, 266, rfl⟩
abbrev main_v216 : Ref sig .tc := ⟨.hbm, 267, rfl⟩
abbrev main_c_29 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_30 : Ref sig .tc := ⟨.hbm, 273, rfl⟩
abbrev main_v221 : Ref sig .tc := ⟨.hbm, 274, rfl⟩
abbrev main_v222 : Ref sig .tc := ⟨.hbm, 275, rfl⟩
abbrev main_cst_31 : Ref sig .tc := ⟨.hbm, 276, rfl⟩
abbrev main_v223 : Ref sig .tc := ⟨.hbm, 277, rfl⟩
abbrev main_v224 : Ref sig .tc := ⟨.hbm, 278, rfl⟩
abbrev main_cst_32 : Ref sig .tc := ⟨.hbm, 279, rfl⟩
abbrev main_v225 : Ref sig .tc := ⟨.hbm, 280, rfl⟩
abbrev main_v226 : Ref sig .tc := ⟨.hbm, 281, rfl⟩
abbrev main_cst_33 : Ref sig .tc := ⟨.hbm, 282, rfl⟩
abbrev main_call4_v0 : Ref sig .tc := ⟨.hbm, 283, rfl⟩
abbrev main_call4_v1 : Ref sig .tc := ⟨.hbm, 284, rfl⟩
abbrev main_v227 : Ref sig .tc := ⟨.hbm, 285, rfl⟩
abbrev main_c_34 : Ref sig .tc := ⟨.hbm, 286, rfl⟩
abbrev main_v228 : Ref sig .tc := ⟨.hbm, 287, rfl⟩
abbrev main_v229 : Ref sig .tc := ⟨.hbm, 288, rfl⟩
abbrev main_c_35 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_c_36 : Ref sig .tc := ⟨.hbm, 295, rfl⟩
abbrev main_v235 : Ref sig .tc := ⟨.hbm, 296, rfl⟩
abbrev main_v236 : Ref sig .tc := ⟨.hbm, 297, rfl⟩
abbrev main_c_37 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_c_38 : Ref sig .tc := ⟨.hbm, 305, rfl⟩
abbrev main_v243 : Ref sig .tc := ⟨.hbm, 306, rfl⟩
abbrev main_v244 : Ref sig .tc := ⟨.hbm, 307, rfl⟩
abbrev main_c_39 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_cst_40 : Ref sig .tc := ⟨.hbm, 317, rfl⟩
abbrev main_v253 : Ref sig .tc := ⟨.hbm, 318, rfl⟩
abbrev main_c_41 : Ref sig .tc := ⟨.hbm, 319, rfl⟩
abbrev main_v254 : Ref sig .tc := ⟨.hbm, 320, rfl⟩
abbrev main_v255 : Ref sig .tc := ⟨.hbm, 321, rfl⟩
abbrev main_c_42 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_cst_43 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_cst_44 : Ref sig .tc := ⟨.hbm, 335, rfl⟩
abbrev main_v267 : Ref sig .tc := ⟨.hbm, 336, rfl⟩
abbrev main_cst_45 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_cst_46 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩

abbrev nD : Nat := 1
abbrev τ : Topo := Topo.v7x

variable {F : FTy → Type} [FloatOps F]
-- ==== Proof.Spec.lean ====
/- The network over the extended reals, entry by entry: the two convolutions, the pooling, the features of one image,
   the average over the 64 images of a graph, the two graph layers and the head. Both programs are shown to compute it. -/
module

public import Idealize.ShloMosaic.PureOps.Ideal

@[expose] public section

noncomputable section

open scoped BigOperators

namespace Cert.Net

/-- An image with a border of zeros: row `y` and column `x` count from the border, so the image starts at 1. -/
def padded {N : ℕ} (X : Fin N → Fin N → EReal) (y x : ℕ) : EReal :=
  if h : (1 ≤ y ∧ y ≤ N) ∧ 1 ≤ x ∧ x ≤ N then X ⟨y - 1, by omega⟩ ⟨x - 1, by omega⟩ else 0

/-- The first convolution, without its bias. -/
def conv1 (K : Fin 8 → Fin 3 → Fin 3 → EReal) (X : Fin 32 → Fin 32 → EReal) (o : Fin 8) (y x : Fin 32) : EReal :=
  ∑ dy : Fin 3, ∑ dx : Fin 3, padded X (y.val + dy.val) (x.val + dx.val) * K o dy dx

/-- The first layer: convolution, bias, rectifier. -/
def layer1 (K : Fin 8 → Fin 3 → Fin 3 → EReal) (b : Fin 8 → EReal) (X : Fin 32 → Fin 32 → EReal) (o : Fin 8) (y x : Fin 32) :
    EReal :=
  max (conv1 K X o y x + b o) 0

/-- The largest of each square of four. -/
def pooled (R : Fin 32 → Fin 32 → EReal) (y x : Fin 16) : EReal :=
  max (max (R ⟨2 * y.val, by omega⟩ ⟨2 * x.val, by omega⟩) (R ⟨2 * y.val, by omega⟩ ⟨2 * x.val + 1, by omega⟩))
    (max (R ⟨2 * y.val + 1, by omega⟩ ⟨2 * x.val, by omega⟩) (R ⟨2 * y.val + 1, by omega⟩ ⟨2 * x.val + 1, by omega⟩))

/-- The second convolution, without its bias. -/
def conv2 (K : Fin 16 → Fin 8 → Fin 3 → Fin 3 → EReal) (P : Fin 8 → Fin 16 → Fin 16 → EReal) (q : Fin 16) (y x : Fin 16) :
    EReal :=
  ∑ dy : Fin 3, ∑ dx : Fin 3, ∑ i : Fin 8, padded (P i) (y.val + dy.val) (x.val + dx.val) * K q i dy dx

/-- The second layer: convolution, bias, rectifier. -/
def layer2 (K : Fin 16 → Fin 8 → Fin 3 → Fin 3 → EReal) (b : Fin 16 → EReal) (P : Fin 8 → Fin 16 → Fin 16 → EReal) (q : Fin 16)
    (y x : Fin 16) : EReal :=
  max (conv2 K P q y x + b q) 0

/-- The weights of the part that works on one image. -/
structure ImageWeights where
  /-- the first convolution -/
  k1 : Fin 8 → Fin 3 → Fin 3 → EReal
  /-- its bias -/
  b1 : Fin 8 → EReal
  /-- the second convolution -/
  k2 : Fin 16 → Fin 8 → Fin 3 → Fin 3 → EReal
  /-- its bias -/
  b2 : Fin 16 → EReal
  /-- the dense layer on the features -/
  fc : Fin 16 → Fin 16 → EReal
  /-- its bias -/
  bf : Fin 16 → EReal

/-- What the second layer leaves of one image. -/
def maps (w : ImageWeights) (X : Fin 32 → Fin 32 → EReal) : Fin 16 → Fin 16 → Fin 16 → EReal :=
  layer2 w.k2 w.b2 fun i => pooled (layer1 w.k1 w.b1 X i)

/-- The features of one image: each map's average. -/
def feature (w : ImageWeights) (X : Fin 32 → Fin 32 → EReal) (q : Fin 16) : EReal :=
  (∑ y : Fin 16, ∑ x : Fin 16, maps w X q y x) / 256

/-- One image's node. -/
def node (w : ImageWeights) (X : Fin 32 → Fin 32 → EReal) (f : Fin 16) : EReal :=
  max ((∑ q : Fin 16, feature w X q * w.fc q f) + w.bf f) 0

/-- The average of a graph's 64 nodes. -/
def average (w : ImageWeights) (X : Fin 64 → Fin 32 → Fin 32 → EReal) (f : Fin 16) : EReal :=
  (∑ r : Fin 64, node w (X r) f) / 64

/-- A dense layer. -/
def dense {A B : ℕ} (a : Fin A → EReal) (W : Fin A → Fin B → EReal) (b : Fin B → EReal) (k : Fin B) : EReal :=
  (∑ f : Fin A, a f * W f k) + b k

/-- A dense layer and a rectifier. -/
def rect {A B : ℕ} (a : Fin A → EReal) (W : Fin A → Fin B → EReal) (b : Fin B → EReal) (k : Fin B) : EReal :=
  max (dense a W b k) 0

/-- The weights of the part that works on one graph. -/
structure GraphWeights where
  /-- the first graph layer -/
  w1 : Fin 16 → Fin 32 → EReal
  /-- its bias -/
  c1 : Fin 32 → EReal
  /-- the second graph layer -/
  w2 : Fin 32 → Fin 64 → EReal
  /-- its bias -/
  c2 : Fin 64 → EReal
  /-- the head's first layer -/
  f1 : Fin 128 → Fin 64 → EReal
  /-- its bias -/
  d1 : Fin 64 → EReal
  /-- the head's second layer -/
  f2 : Fin 64 → Fin 2 → EReal
  /-- its bias -/
  d2 : Fin 2 → EReal

/-- The two graph layers: on a complete graph with loops every node becomes the average of all. -/
def graphState (g : GraphWeights) (a : Fin 16 → EReal) : Fin 64 → EReal :=
  rect (rect a g.w1 g.c1) g.w2 g.c2

/-- The graph's state beside its latent vector. -/
def joined (h l : Fin 64 → EReal) (k : Fin 128) : EReal :=
  if hk : k.val < 64 then h ⟨k.val, hk⟩ else l ⟨k.val - 64, by omega⟩

/-- One graph's result. -/
def result (g : GraphWeights) (a : Fin 16 → EReal) (l : Fin 64 → EReal) : Fin 2 → EReal :=
  dense (rect (joined (graphState g a) l) g.f1 g.d1) g.f2 g.d2

end Cert.Net

end
-- ==== Proof.Args.lean ====
/- The weights of the network, read off the argument arrays. -/
module

public import proofs.«01_k».proof.Proof.Spec
public import Idealize.ShloMosaic.Lib.Pointwise

@[expose] public section

noncomputable section

namespace Cert.Args

open Idealize.ShloMosaic

/-- An array of extended reals. -/
abbrev Arr (n : ℕ) (d : Fin n → ℕ) : Type := (⟨n, d⟩ : Shape).Idx → EReal

/-- The weights of the part that works on one image. -/
def imageWeights (a2 : Arr 4 ![8, 1, 3, 3]) (a3 : Arr 1 ![8]) (a4 : Arr 4 ![16, 8, 3, 3]) (a5 : Arr 1 ![16])
    (a6 : Arr 2 ![16, 16]) (a7 : Arr 1 ![16]) : Net.ImageWeights where
  k1 o dy dx := a2 (ix4 o 0 dy dx)
  b1 o := a3 (ix1 o)
  k2 q i dy dx := a4 (ix4 q i dy dx)
  b2 q := a5 (ix1 q)
  fc q f := a6 (ix2 q f)
  bf f := a7 (ix1 f)

/-- The weights of the part that works on one graph. -/
def graphWeights (a8 : Arr 2 ![16, 32]) (a9 : Arr 1 ![32]) (a10 : Arr 2 ![32, 64]) (a11 : Arr 1 ![64])
    (a12 : Arr 2 ![128, 64]) (a13 : Arr 1 ![64]) (a14 : Arr 2 ![64, 2]) (a15 : Arr 1 ![2]) : Net.GraphWeights where
  w1 f k := a8 (ix2 f k)
  c1 k := a9 (ix1 k)
  w2 f k := a10 (ix2 f k)
  c2 k := a11 (ix1 k)
  f1 f k := a12 (ix2 f k)
  d1 k := a13 (ix1 k)
  f2 f k := a14 (ix2 f k)
  d2 k := a15 (ix1 k)

/-- Image `n` of all: image `n % 64` of graph `n / 64`. -/
def picture (a0 : Arr 4 ![512, 64, 32, 32]) (n : Fin 32768) : Fin 32 → Fin 32 → EReal :=
  fun y x => a0 (ix4 ⟨n.val / 64, by omega⟩ ⟨n.val % 64, Nat.mod_lt _ (by decide)⟩ y x)

/-- Graph `g`'s result: its 64 images are those from `64 g`. -/
def outcome (w : Net.ImageWeights) (g : Net.GraphWeights) (a0 : Arr 4 ![512, 64, 32, 32]) (a1 : Arr 2 ![512, 64])
    (j : Fin 512) (k : Fin 2) : EReal :=
  Net.result g (Net.average w fun r => picture a0 ⟨64 * j.val + r.val, by omega⟩) (fun l => a1 (ix2 j l)) k

end Cert.Args

end
-- ==== Proof.Head.lean ====
/- What the head block computes at an index: the two graph layers and the two layers of the head. -/
module

public import proofs.«01_k».proof.Proof.Gen.KernelIdeal.Frame
public import proofs.«01_k».proof.Proof.Args
public import Idealize.ShloMosaic.Lib.Pointwise

@[expose] public section

set_option maxRecDepth 16384

noncomputable section

open scoped BigOperators

namespace Cert.Head

open Cert.KernelIdeal Cert.KernelIdeal.Gen
open Idealize.ShloMosaic Idealize.ShloMosaic.TcCoe

/-- A sum over the joined vector is a sum over the state and a sum over the latent vector. -/
theorem sum_joined (h l : Fin 64 → EReal) (f : Fin 128 → EReal) :
    ∑ k : Fin 128, Net.joined h l k * f k =
      (∑ k : Fin 64, h k * f ⟨k.val, by omega⟩) + ∑ k : Fin 64, l k * f ⟨64 + k.val, by omega⟩ := by
  rw [Fin.sum_univ_add (a := 64) (b := 64) (fun k : Fin (64 + 64) => Net.joined h l k * f k)]
  refine congrArg₂ (· + ·) (Finset.sum_congr rfl fun k _ => ?_) (Finset.sum_congr rfl fun k _ => ?_)
  · have e : Net.joined h l (Fin.castAdd 64 k) = h k := dif_pos k.isLt
    rw [e]; rfl
  · have e : Net.joined h l (Fin.natAdd 64 k) = l k := by
      refine (dif_neg (by simp)).trans (congrArg l (Fin.ext ?_))
      simp
    rw [e]; rfl

/-- What the head block's operands hold: the averages, the latent vectors, the weights and biases. The last layer's
    weights and bias are wider than they need be; the first two columns are the ones that count. -/
structure Operands (g : Net.GraphWeights) (a : Fin 512 → Fin 16 → EReal) (l : Fin 512 → Fin 64 → EReal)
    (x0 : Vec Ideal S512x16 .f32) (x1 : Vec Ideal S512x64 .f32) (x2 : Vec Ideal S16x32 .f32) (x3 : Vec Ideal S1x32 .f32)
    (x4 : Vec Ideal S32x64 .f32) (x5 : Vec Ideal S1x64 .f32) (x6 : Vec Ideal S128x64 .f32) (x7 : Vec Ideal S1x64 .f32)
    (x8 : Vec Ideal S64x8 .f32) (x9 : Vec Ideal S1x8 .f32) : Prop where
  averages : ∀ j f, x0 (ix2 j f) = a j f
  latent : ∀ j k, x1 (ix2 j k) = l j k
  weight1 : ∀ f k, x2 (ix2 f k) = g.w1 f k
  bias1 : ∀ k, x3 (ix2 0 k) = g.c1 k
  weight2 : ∀ f k, x4 (ix2 f k) = g.w2 f k
  bias2 : ∀ k, x5 (ix2 0 k) = g.c2 k
  weight3 : ∀ f k, x6 (ix2 f k) = g.f1 f k
  bias3 : ∀ k, x7 (ix2 0 k) = g.d1 k
  weight4 : ∀ (f : Fin 64) (k : Fin 2), x8 (ix2 f ⟨k.val, by omega⟩) = g.f2 f k
  bias4 : ∀ k : Fin 2, x9 (ix2 0 ⟨k.val, by omega⟩) = g.d2 k

section

variable {g : Net.GraphWeights} {a : Fin 512 → Fin 16 → EReal} {l : Fin 512 → Fin 64 → EReal}
  {x0 : Vec Ideal S512x16 .f32} {x1 : Vec Ideal S512x64 .f32} {x2 : Vec Ideal S16x32 .f32} {x3 : Vec Ideal S1x32 .f32}
  {x4 : Vec Ideal S32x64 .f32} {x5 : Vec Ideal S1x64 .f32} {x6 : Vec Ideal S128x64 .f32} {x7 : Vec Ideal S1x64 .f32}
  {x8 : Vec Ideal S64x8 .f32} {x9 : Vec Ideal S1x8 .f32}

/-- The head block computes every graph's result. -/
theorem head_at (h : Operands g a l x0 x1 x2 x3 x4 x5 x6 x7 x8 x9) (j : Fin 512) (k : Fin 2) :
    (k1_pay1 (F := Ideal) (k1_pay2 x0 x2 x3 x4 x5 x1 x6 x7 x8) (k1_pay3 x9) (ix2 j ⟨k.val, by omega⟩) : EReal) =
      Net.result g (a j) (l j) k := by
  generalize hq : (⟨k.val, by omega⟩ : Fin 8) = q
  pointwise [k1_pay1, k1_pay2, k1_pay3]
  subst hq
  rw [h.bias4]
  simp only [h.weight4, h.averages, h.latent, h.weight1, h.weight2, h.weight3, h.bias1, h.bias2, h.bias3]
  unfold Net.result Net.dense
  refine congrArg (· + _) (Finset.sum_congr rfl fun f _ => ?_)
  refine congrArg (· * _) ?_
  unfold Net.rect Net.dense
  rw [sum_joined]
  rfl

theorem hz : (![0, 0] : Fin 2 → Nat) = fun _ => 0 := funext fun a => by fin_cases a <;> rfl

/-- The block's whole output. -/
theorem out_at (h : Operands g a l x0 x1 x2 x3 x4 x5 x6 x7 x8 x9) (j : Fin 512) (k : Fin 2) :
    (out1_10 (F := Ideal) x0 x1 x2 x3 x4 x5 x6 x7 x8 x9 : Vec Ideal S512x8 .f32) (ix2 j ⟨k.val, by omega⟩) =
      Net.result g (a j) (l j) k := by
  have l0 : View.ld (Val := Elt Ideal) x0 r1_0 = x0 := View.ld_unit_zero (S := S512x16) hz _ _
  have l1 : View.ld (Val := Elt Ideal) x2 r1_1 = x2 := View.ld_unit_zero (S := S16x32) hz _ _
  have l2 : View.ld (Val := Elt Ideal) x3 r1_2 = x3 := View.ld_unit_zero (S := S1x32) hz _ _
  have l3 : View.ld (Val := Elt Ideal) x4 r1_3 = x4 := View.ld_unit_zero (S := S32x64) hz _ _
  have l4 : View.ld (Val := Elt Ideal) x5 r1_4 = x5 := View.ld_unit_zero (S := S1x64) hz _ _
  have l5 : View.ld (Val := Elt Ideal) x1 r1_5 = x1 := View.ld_unit_zero (S := S512x64) hz _ _
  have l6 : View.ld (Val := Elt Ideal) x6 r1_6 = x6 := View.ld_unit_zero (S := S128x64) hz _ _
  have l7 : View.ld (Val := Elt Ideal) x7 r1_4 = x7 := View.ld_unit_zero (S := S1x64) hz _ _
  have l8 : View.ld (Val := Elt Ideal) x8 r1_7 = x8 := View.ld_unit_zero (S := S64x8) hz _ _
  have l9 : View.ld (Val := Elt Ideal) x9 r1_8 = x9 := View.ld_unit_zero (S := S1x8) hz _ _
  unfold out1_10
  rw [l0, l1, l2, l3, l4, l5, l6, l7, l8, l9, View.canon_unit_zero hz]
  exact head_at h j k

end

end Cert.Head

end
-- ==== Proof.Tables.lean ====
/- The index tables of the two band matrices, in closed form: entry by entry, the row and the column of the
   matrix that each update of a convolution's weights is written to. -/
module

public import proofs.«01_k».proof.KernelIdeal

@[expose] public section

set_option maxRecDepth 16384

noncomputable section

namespace Cert.Bands

open Cert.KernelIdeal

/-! ## The first convolution: row `32 dy + xin`, column `8 xout + oc` -/

/-- The rows written at vertical tap 0, horizontal tap 0. -/
theorem rows1_00 : ∀ i : Fin 248, lit0 i = BitVec.ofNat 32 (0 + i.val / 8) := by decide +kernel
/-- The columns written at vertical tap 0, horizontal tap 0. -/
theorem cols1_00 : ∀ i : Fin 248, lit1 i = BitVec.ofNat 32 (8 + i.val) := by decide +kernel
/-- The rows written at vertical tap 0, horizontal tap 1. -/
theorem rows1_01 : ∀ i : Fin 256, lit2 i = BitVec.ofNat 32 (0 + i.val / 8) := by decide +kernel
/-- The columns written at vertical tap 0, horizontal tap 1. -/
theorem cols1_01 : ∀ i : Fin 256, lit3 i = BitVec.ofNat 32 (0 + i.val) := by decide +kernel
/-- The rows written at vertical tap 0, horizontal tap 2. -/
theorem rows1_02 : ∀ i : Fin 248, lit4 i = BitVec.ofNat 32 (1 + i.val / 8) := by decide +kernel
/-- The columns written at vertical tap 0, horizontal tap 2. -/
theorem cols1_02 : ∀ i : Fin 248, lit5 i = BitVec.ofNat 32 (0 + i.val) := by decide +kernel
/-- The rows written at vertical tap 1, horizontal tap 0. -/
theorem rows1_10 : ∀ i : Fin 248, lit6 i = BitVec.ofNat 32 (32 + i.val / 8) := by decide +kernel
/-- The columns written at vertical tap 1, horizontal tap 0. -/
theorem cols1_10 : ∀ i : Fin 248, lit7 i = BitVec.ofNat 32 (8 + i.val) := by decide +kernel
/-- The rows written at vertical tap 1, horizontal tap 1. -/
theorem rows1_11 : ∀ i : Fin 256, lit8 i = BitVec.ofNat 32 (32 + i.val / 8) := by decide +kernel
/-- The columns written at vertical tap 1, horizontal tap 1. -/
theorem cols1_11 : ∀ i : Fin 256, lit9 i = BitVec.ofNat 32 (0 + i.val) := by decide +kernel
/-- The rows written at vertical tap 1, horizontal tap 2. -/
theorem rows1_12 : ∀ i : Fin 248, lit10 i = BitVec.ofNat 32 (33 + i.val / 8) := by decide +kernel
/-- The columns written at vertical tap 1, horizontal tap 2. -/
theorem cols1_12 : ∀ i : Fin 248, lit11 i = BitVec.ofNat 32 (0 + i.val) := by decide +kernel
/-- The rows written at vertical tap 2, horizontal tap 0. -/
theorem rows1_20 : ∀ i : Fin 248, lit12 i = BitVec.ofNat 32 (64 + i.val / 8) := by decide +kernel
/-- The columns written at vertical tap 2, horizontal tap 0. -/
theorem cols1_20 : ∀ i : Fin 248, lit13 i = BitVec.ofNat 32 (8 + i.val) := by decide +kernel
/-- The rows written at vertical tap 2, horizontal tap 1. -/
theorem rows1_21 : ∀ i : Fin 256, lit14 i = BitVec.ofNat 32 (64 + i.val / 8) := by decide +kernel
/-- The columns written at vertical tap 2, horizontal tap 1. -/
theorem cols1_21 : ∀ i : Fin 256, lit15 i = BitVec.ofNat 32 (0 + i.val) := by decide +kernel
/-- The rows written at vertical tap 2, horizontal tap 2. -/
theorem rows1_22 : ∀ i : Fin 248, lit16 i = BitVec.ofNat 32 (65 + i.val / 8) := by decide +kernel
/-- The columns written at vertical tap 2, horizontal tap 2. -/
theorem cols1_22 : ∀ i : Fin 248, lit17 i = BitVec.ofNat 32 (0 + i.val) := by decide +kernel

/-! ## The second convolution: row `16 xin + ic`, column `16 xout + oc` -/

/-- The rows written at vertical tap 0, horizontal tap 0. -/
theorem rows2_00 : ∀ i : Fin 1920, lit18 i = BitVec.ofNat 32 (16 * (0 + i.val / 128) + i.val / 16 % 8) := by decide +kernel
/-- The columns written at vertical tap 0, horizontal tap 0. -/
theorem cols2_00 : ∀ i : Fin 1920, lit19 i = BitVec.ofNat 32 (16 * (1 + i.val / 128) + i.val % 16) := by decide +kernel
/-- The rows written at vertical tap 0, horizontal tap 1. -/
theorem rows2_01 : ∀ i : Fin 2048, lit20 i = BitVec.ofNat 32 (16 * (0 + i.val / 128) + i.val / 16 % 8) := by decide +kernel
/-- The columns written at vertical tap 0, horizontal tap 1. -/
theorem cols2_01 : ∀ i : Fin 2048, lit21 i = BitVec.ofNat 32 (16 * (0 + i.val / 128) + i.val % 16) := by decide +kernel
/-- The rows written at vertical tap 0, horizontal tap 2. -/
theorem rows2_02 : ∀ i : Fin 1920, lit22 i = BitVec.ofNat 32 (16 * (1 + i.val / 128) + i.val / 16 % 8) := by decide +kernel
/-- The columns written at vertical tap 0, horizontal tap 2. -/
theorem cols2_02 : ∀ i : Fin 1920, lit23 i = BitVec.ofNat 32 (16 * (0 + i.val / 128) + i.val % 16) := by decide +kernel
/-- The rows written at vertical tap 1, horizontal tap 0. -/
theorem rows2_10 : ∀ i : Fin 1920, lit24 i = BitVec.ofNat 32 (16 * (0 + i.val / 128) + i.val / 16 % 8) := by decide +kernel
/-- The columns written at vertical tap 1, horizontal tap 0. -/
theorem cols2_10 : ∀ i : Fin 1920, lit25 i = BitVec.ofNat 32 (16 * (1 + i.val / 128) + i.val % 16) := by decide +kernel
/-- The rows written at vertical tap 1, horizontal tap 1. -/
theorem rows2_11 : ∀ i : Fin 2048, lit26 i = BitVec.ofNat 32 (16 * (0 + i.val / 128) + i.val / 16 % 8) := by decide +kernel
/-- The columns written at vertical tap 1, horizontal tap 1. -/
theorem cols2_11 : ∀ i : Fin 2048, lit27 i = BitVec.ofNat 32 (16 * (0 + i.val / 128) + i.val % 16) := by decide +kernel
/-- The rows written at vertical tap 1, horizontal tap 2. -/
theorem rows2_12 : ∀ i : Fin 1920, lit28 i = BitVec.ofNat 32 (16 * (1 + i.val / 128) + i.val / 16 % 8) := by decide +kernel
/-- The columns written at vertical tap 1, horizontal tap 2. -/
theorem cols2_12 : ∀ i : Fin 1920, lit29 i = BitVec.ofNat 32 (16 * (0 + i.val / 128) + i.val % 16) := by decide +kernel
/-- The rows written at vertical tap 2, horizontal tap 0. -/
theorem rows2_20 : ∀ i : Fin 1920, lit30 i = BitVec.ofNat 32 (16 * (0 + i.val / 128) + i.val / 16 % 8) := by decide +kernel
/-- The columns written at vertical tap 2, horizontal tap 0. -/
theorem cols2_20 : ∀ i : Fin 1920, lit31 i = BitVec.ofNat 32 (16 * (1 + i.val / 128) + i.val % 16) := by decide +kernel
/-- The rows written at vertical tap 2, horizontal tap 1. -/
theorem rows2_21 : ∀ i : Fin 2048, lit32 i = BitVec.ofNat 32 (16 * (0 + i.val / 128) + i.val / 16 % 8) := by decide +kernel
/-- The columns written at vertical tap 2, horizontal tap 1. -/
theorem cols2_21 : ∀ i : Fin 2048, lit33 i = BitVec.ofNat 32 (16 * (0 + i.val / 128) + i.val % 16) := by decide +kernel
/-- The rows written at vertical tap 2, horizontal tap 2. -/
theorem rows2_22 : ∀ i : Fin 1920, lit34 i = BitVec.ofNat 32 (16 * (1 + i.val / 128) + i.val / 16 % 8) := by decide +kernel
/-- The columns written at vertical tap 2, horizontal tap 2. -/
theorem cols2_22 : ∀ i : Fin 1920, lit35 i = BitVec.ofNat 32 (16 * (0 + i.val / 128) + i.val % 16) := by decide +kernel

end Cert.Bands

end
-- ==== Proof.Paint.lean ====
/- Scatters that write a table of scalars into a matrix of bands: where update `(a, b)` (or `(a, i, o)`) lands, and
   what the scattered array holds at an entry. -/
module

public import Idealize.ShloMosaic.Lib.Routing.OpsSet
public import Idealize.ShloMosaic.Lib.Pointwise

@[expose] public section

noncomputable section

namespace Cert.Bands

open Idealize.ShloMosaic

/-- Update `(a, i, o)` of a scatter of scalars into an array of three axes, three index words each, lands where its
    words, read signed, point. -/
theorem lands3 {E R C A I O w : ℕ} (d : ScatterDims ⟨3, ![E, R, C]⟩ ⟨4, ![A, I, O, 3]⟩ ⟨3, ![A, I, O]⟩)
    (hiw : d.insertedWindowDims = [0, 1, 2]) (hsd : d.scatterDimsToOperandDims = [0, 1, 2]) (hivd : d.indexVectorDim = 3)
    (idx : IVec ⟨4, ![A, I, O, 3]⟩ w) (a : Fin A) (i : Fin I) (o : Fin O) (e : Fin E) (r : Fin R) (c : Fin C) :
    d.resultIdx? (ix3 a i o) idx = some (ix3 e r c) ↔
      (idx (ix4 a i o 0)).toInt = e.val ∧ (idx (ix4 a i o 1)).toInt = r.val ∧ (idx (ix4 a i o 2)).toInt = c.val := by
  have nowin : d.updateWindowDims = [] := List.eq_nil_of_length_eq_zero (by
    rw [d.window_length]
    show (Shape.kept ⟨3, ![E, R, C]⟩ d.insertedWindowDims).length = 0
    rw [hiw]; rfl)
  have mem : ∀ q : Fin 3, q ∈ d.scatterDimsToOperandDims := by
    intro q; rw [hsd]; fin_cases q <;> simp
  have flat : ∀ q : Fin 3, d.window (ix3 a i o) q = 0 := by
    intro q
    unfold ScatterDims.window
    rw [dif_neg fun h => (of_decide_eq_true (List.mem_filter.1 h).2) (by rw [hiw]; fin_cases q <;> simp)]
  have pick : ∀ (l : List (Fin 3)) (n : ℕ) (h : n < l.length) (q : Fin 3), l = [0, 1, 2] → n = q.val → l[n]'h = q := by
    rintro l n h q rfl rfl
    fin_cases q <;> rfl
  have kept : d.siKept = [0, 1, 2] := by
    show (List.finRange 4).filter (fun x => decide (x.val ≠ d.indexVectorDim)) = _
    rw [hivd]; rfl
  have scat : d.uScatter = [0, 1, 2] := by
    show Shape.kept ⟨3, ![A, I, O]⟩ d.updateWindowDims = _
    rw [nowin]; rfl
  have word : ∀ q : Fin 3, d.siIdx (ix3 a i o) ⟨d.scatterDimsToOperandDims.idxOf q, List.idxOf_lt_length_iff.2 (mem q)⟩
      = ix4 a i o q := by
    intro q
    funext b
    apply Fin.ext
    match b with
    | ⟨0, _⟩ =>
      unfold ScatterDims.siIdx
      rw [dif_neg (by rw [hivd]; exact (by decide : (0 : ℕ) ≠ 3))]
      unfold ScatterDims.siCoord
      simp only [Fin.val_cast]
      rw [pick _ _ _ 0 scat (by rw [kept]; rfl)]
      rfl
    | ⟨1, _⟩ =>
      unfold ScatterDims.siIdx
      rw [dif_neg (by rw [hivd]; exact (by decide : (1 : ℕ) ≠ 3))]
      unfold ScatterDims.siCoord
      simp only [Fin.val_cast]
      rw [pick _ _ _ 1 scat (by rw [kept]; rfl)]
      rfl
    | ⟨2, _⟩ =>
      unfold ScatterDims.siIdx
      rw [dif_neg (by rw [hivd]; exact (by decide : (2 : ℕ) ≠ 3))]
      unfold ScatterDims.siCoord
      simp only [Fin.val_cast]
      rw [pick _ _ _ 2 scat (by rw [kept]; rfl)]
      rfl
    | ⟨3, _⟩ =>
      unfold ScatterDims.siIdx
      rw [dif_pos (by rw [hivd])]
      show List.idxOf q d.scatterDimsToOperandDims = q.val
      rw [hsd]; fin_cases q <;> rfl
  have start : ∀ q : Fin 3, d.start (ix3 a i o) idx q = (idx (ix4 a i o q)).toInt := by
    intro q
    unfold ScatterDims.start
    rw [dif_pos (mem q), word]
  rw [Routing.resultIdx?_eq_some]
  have each : ∀ q : Fin 3, d.start (ix3 a i o) idx q + (d.window (ix3 a i o) q : Int) = (idx (ix4 a i o q)).toInt := by
    intro q; rw [start, flat]; omega
  constructor
  · intro h
    exact ⟨(each 0).symm.trans (h 0), (each 1).symm.trans (h 1), (each 2).symm.trans (h 2)⟩
  · rintro ⟨h0, h1, h2⟩ q
    match q with
    | ⟨0, _⟩ => exact (each 0).trans h0
    | ⟨1, _⟩ => exact (each 1).trans h1
    | ⟨2, _⟩ => exact (each 2).trans h2

/-- One tap of the first convolution written into its matrix: update `(a, b)` goes to row `R + a` and column
    `8 (C + a) + b`. -/
theorem band_at {α : Type} {A : ℕ} (d : ScatterDims ⟨2, ![96, 256]⟩ ⟨3, ![A, 8, 2]⟩ ⟨2, ![A, 8]⟩)
    (hiw : d.insertedWindowDims = [0, 1]) (hsd : d.scatterDimsToOperandDims = [0, 1]) (hivd : d.indexVectorDim = 2)
    (M : (⟨2, ![96, 256]⟩ : Shape).Idx → α) (idx : IVec ⟨3, ![A, 8, 2]⟩ 32) (u : (⟨2, ![A, 8]⟩ : Shape).Idx → α) (R C : ℕ)
    (hR : R + A ≤ 96) (hC : C + A ≤ 32)
    (hr : ∀ (a : Fin A) (b : Fin 8), idx (ix3 a b 0) = BitVec.ofNat 32 (R + a.val))
    (hc : ∀ (a : Fin A) (b : Fin 8), idx (ix3 a b 1) = BitVec.ofNat 32 (8 * (C + a.val) + b.val))
    (v : Fin 8 → α) (hu : ∀ (a : Fin A) (b : Fin 8), u (ix2 a b) = v b) (r : Fin 96) (c : Fin 256) :
    Host.scatter d (fun _ b => b) M idx u (ix2 r c) =
      if R ≤ r.val ∧ r.val < R + A ∧ c.val / 8 + R = C + r.val then v ⟨c.val % 8, Nat.mod_lt _ (by decide)⟩
      else M (ix2 r c) := by
  have land : ∀ (a : Fin A) (b : Fin 8), d.resultIdx? (ix2 a b) idx = some (ix2 r c) ↔
      R + a.val = r.val ∧ 8 * (C + a.val) + b.val = c.val := by
    intro a b
    have ha := a.isLt
    have hb := b.isLt
    rw [ix2_eq_valueIdx, ix2_eq_valueIdx, Routing.scatter_lands2 d hiw hsd hivd, ← ix3_eq_valueIdx, ← ix3_eq_valueIdx, hr, hc,
      StableHlo.Predicate.toInt_ofNat_small _ (by omega), StableHlo.Predicate.toInt_ofNat_small _ (by omega)]
    omega
  have hcl := c.isLt
  by_cases h : R ≤ r.val ∧ r.val < R + A ∧ c.val / 8 + R = C + r.val
  · rw [if_pos h]
    refine Routing.scatter_set_hit d M idx u _ _ (fun k hk => ?_)
      (ix2 (⟨r.val - R, by omega⟩ : Fin A) (⟨c.val % 8, Nat.mod_lt _ (by decide)⟩ : Fin 8))
      ((land _ _).2 ⟨by show R + (r.val - R) = _; omega, by show 8 * (C + (r.val - R)) + c.val % 8 = _; omega⟩)
    obtain ⟨a, b, rfl⟩ : ∃ (a : Fin A) (b : Fin 8), k = ix2 a b := ⟨k 0, k 1, eq_ix2 k⟩
    have q := (land _ _).1 hk
    have hb := b.isLt
    rw [hu]
    exact congrArg v (Fin.ext (by show b.val = c.val % 8; omega))
  · rw [if_neg h]
    refine Routing.scatter_set_miss d M idx u _ fun k hk => h ?_
    obtain ⟨a, b, rfl⟩ : ∃ (a : Fin A) (b : Fin 8), k = ix2 a b := ⟨k 0, k 1, eq_ix2 k⟩
    have q := (land _ _).1 hk
    have ha := a.isLt
    have hb := b.isLt
    refine ⟨by omega, by omega, ?_⟩
    have : c.val / 8 = C + a.val := by
      rw [← q.2, Nat.mul_add_div (by decide), Nat.div_eq_of_lt hb]; rfl
    omega

/-- One tap of the second convolution written into its three matrices: update `(a, i, o)` goes to matrix `e`, row
    `16 (R + a) + i` and column `16 (C + a) + o`. -/
theorem slab_at {α : Type} {A : ℕ} (d : ScatterDims ⟨3, ![3, 256, 256]⟩ ⟨4, ![A, 8, 16, 3]⟩ ⟨3, ![A, 8, 16]⟩)
    (hiw : d.insertedWindowDims = [0, 1, 2]) (hsd : d.scatterDimsToOperandDims = [0, 1, 2]) (hivd : d.indexVectorDim = 3)
    (M : (⟨3, ![3, 256, 256]⟩ : Shape).Idx → α) (idx : IVec ⟨4, ![A, 8, 16, 3]⟩ 32) (u : (⟨3, ![A, 8, 16]⟩ : Shape).Idx → α)
    (e R C : ℕ) (he : e < 3) (hR : R + A ≤ 16) (hC : C + A ≤ 16)
    (h0 : ∀ (a : Fin A) (i : Fin 8) (o : Fin 16), idx (ix4 a i o 0) = BitVec.ofNat 32 e)
    (hr : ∀ (a : Fin A) (i : Fin 8) (o : Fin 16), idx (ix4 a i o 1) = BitVec.ofNat 32 (16 * (R + a.val) + i.val))
    (hc : ∀ (a : Fin A) (i : Fin 8) (o : Fin 16), idx (ix4 a i o 2) = BitVec.ofNat 32 (16 * (C + a.val) + o.val))
    (v : ℕ → Fin 16 → α) (hu : ∀ (a : Fin A) (i : Fin 8) (o : Fin 16), u (ix3 a i o) = v i.val o)
    (f : Fin 3) (r c : Fin 256) :
    Host.scatter d (fun _ b => b) M idx u (ix3 f r c) =
      if f.val = e ∧ r.val % 16 < 8 ∧ R ≤ r.val / 16 ∧ r.val / 16 < R + A ∧ c.val / 16 + R = C + r.val / 16
      then v (r.val % 16) ⟨c.val % 16, Nat.mod_lt _ (by decide)⟩ else M (ix3 f r c) := by
  have land : ∀ (a : Fin A) (i : Fin 8) (o : Fin 16), d.resultIdx? (ix3 a i o) idx = some (ix3 f r c) ↔
      e = f.val ∧ 16 * (R + a.val) + i.val = r.val ∧ 16 * (C + a.val) + o.val = c.val := by
    intro a i o
    have ha := a.isLt
    have hi := i.isLt
    have ho := o.isLt
    rw [lands3 d hiw hsd hivd, h0, hr, hc, StableHlo.Predicate.toInt_ofNat_small _ (by omega),
      StableHlo.Predicate.toInt_ofNat_small _ (by omega), StableHlo.Predicate.toInt_ofNat_small _ (by omega)]
    omega
  have hrl := r.isLt
  have hcl := c.isLt
  by_cases h : f.val = e ∧ r.val % 16 < 8 ∧ R ≤ r.val / 16 ∧ r.val / 16 < R + A ∧ c.val / 16 + R = C + r.val / 16
  · rw [if_pos h]
    refine Routing.scatter_set_hit d M idx u _ _ (fun k hk => ?_)
      (ix3 (⟨r.val / 16 - R, by omega⟩ : Fin A) (⟨r.val % 16, by omega⟩ : Fin 8) (⟨c.val % 16, Nat.mod_lt _ (by decide)⟩ : Fin 16))
      ((land _ _ _).2 ⟨h.1.symm, by show 16 * (R + (r.val / 16 - R)) + r.val % 16 = _; omega,
        by show 16 * (C + (r.val / 16 - R)) + c.val % 16 = _; omega⟩)
    obtain ⟨a, i, o, rfl⟩ : ∃ (a : Fin A) (i : Fin 8) (o : Fin 16), k = ix3 a i o := ⟨k 0, k 1, k 2, eq_ix3 k⟩
    have q := (land _ _ _).1 hk
    have hi := i.isLt
    have ho := o.isLt
    rw [hu, show i.val = r.val % 16 by omega]
    exact congrArg (v _) (Fin.ext (by show o.val = c.val % 16; omega))
  · rw [if_neg h]
    refine Routing.scatter_set_miss d M idx u _ fun k hk => h ?_
    obtain ⟨a, i, o, rfl⟩ : ∃ (a : Fin A) (i : Fin 8) (o : Fin 16), k = ix3 a i o := ⟨k 0, k 1, k 2, eq_ix3 k⟩
    have q := (land _ _ _).1 hk
    have ha := a.isLt
    have hi := i.isLt
    have ho := o.isLt
    have e1 : c.val / 16 = C + a.val := by
      rw [← q.2.2, Nat.mul_add_div (by decide), Nat.div_eq_of_lt ho]; rfl
    have e2 : r.val / 16 = R + a.val := by
      rw [← q.2.1, Nat.mul_add_div (by decide), Nat.div_eq_of_lt (by omega)]; rfl
    have e3 : r.val % 16 = i.val := by
      rw [← q.2.1, Nat.mul_add_mod, Nat.mod_eq_of_lt (by omega)]
    exact ⟨q.1.symm, by omega, by omega, by omega, by omega⟩

end Cert.Bands

end
-- ==== Proof.Bands1.lean ====
/- The first convolution's matrix of bands, as the host builds it: row `32 dy + xin`, column `8 xout + oc`. -/
module

public import proofs.«01_k».proof.Proof.Gen.KernelIdeal.Frame
public import proofs.«01_k».proof.Proof.Tables
public import proofs.«01_k».proof.Proof.Paint
public import Idealize.ShloMosaic.Lib.StableHlo.ReadAt

@[expose] public section

set_option maxRecDepth 16384

noncomputable section

namespace Cert.Bands

open Cert.KernelIdeal Cert.KernelIdeal.Gen
open Idealize.ShloMosaic Idealize.ShloMosaic.TcCoe

variable (m : (ℓ : Loc nD τ sig) → Buf (Elt Ideal) ℓ) (ρ : Dev nD → PrngReg)

/-- The first convolution's weights, by output channel and tap. -/
def taps1 (c : Dev nD) (o : Fin 8) (dy dx : Fin 3) : EReal := (W0 m ρ c (Proc.devRef .tc main_arg2) : Vec Ideal S8x1x3x3 .f32) (ix4 o 0 dy dx)

/-- The matrix once vertical tap 0, horizontal tap 0 is written. -/
theorem bands1_00 (c : Dev nD) (r : Fin 96) (l : Fin 256) :
    (W1 m ρ c (Proc.devRef .tc main_v14) : Vec Ideal S96x256 .f32) (ix2 r l) =
      if 0 ≤ r.val ∧ r.val < 0 + 31 ∧ l.val / 8 + 0 = 1 + r.val then
        taps1 m ρ c ⟨l.val % 8, Nat.mod_lt _ (by decide)⟩ 0 0
      else (W1 m ρ c (Proc.devRef .tc main_v0) : Vec Ideal S96x256 .f32) (ix2 r l) := by
  after_reads_simp
  refine band_at (A := 31) _ rfl rfl rfl _ _ _ 0 1 (by omega) (by omega) ?_ ?_ (fun o => taps1 m ρ c o 0 0) ?_ r l
  · intro a b
    pointwise
    after_reads_simp
    pointwise
    refine (rows1_00 _).trans ?_
    rw [Shape.rowMajor_val_two]
    exact congrArg (BitVec.ofNat 32) (by show 0 + (a.val * 8 + b.val) / 8 = a.val; omega)
  · intro a b
    pointwise
    after_reads_simp
    pointwise
    refine (cols1_00 _).trans ?_
    rw [Shape.rowMajor_val_two]
    exact congrArg (BitVec.ofNat 32) (by show 8 + (a.val * 8 + b.val) = 8 * (1 + a.val) + b.val; omega)
  · intro a b
    pointwise
    rfl

/-- The matrix once vertical tap 0, horizontal tap 1 is written. -/
theorem bands1_01 (c : Dev nD) (r : Fin 96) (l : Fin 256) :
    (W1 m ρ c (Proc.devRef .tc main_v28) : Vec Ideal S96x256 .f32) (ix2 r l) =
      if 0 ≤ r.val ∧ r.val < 0 + 32 ∧ l.val / 8 + 0 = 0 + r.val then
        taps1 m ρ c ⟨l.val % 8, Nat.mod_lt _ (by decide)⟩ 0 1
      else (W1 m ρ c (Proc.devRef .tc main_v14) : Vec Ideal S96x256 .f32) (ix2 r l) := by
  after_reads_simp
  refine band_at (A := 32) _ rfl rfl rfl _ _ _ 0 0 (by omega) (by omega) ?_ ?_ (fun o => taps1 m ρ c o 0 1) ?_ r l
  · intro a b
    pointwise
    after_reads_simp
    pointwise
    refine (rows1_01 _).trans ?_
    rw [Shape.rowMajor_val_two]
    exact congrArg (BitVec.ofNat 32) (by show 0 + (a.val * 8 + b.val) / 8 = a.val; omega)
  · intro a b
    pointwise
    after_reads_simp
    pointwise
    refine (cols1_01 _).trans ?_
    rw [Shape.rowMajor_val_two]
    exact congrArg (BitVec.ofNat 32) (by show 0 + (a.val * 8 + b.val) = 8 * a.val + b.val; omega)
  · intro a b
    pointwise
    rfl

/-- The matrix once vertical tap 0, horizontal tap 2 is written. -/
theorem bands1_02 (c : Dev nD) (r : Fin 96) (l : Fin 256) :
    (W1 m ρ c (Proc.devRef .tc main_v42) : Vec Ideal S96x256 .f32) (ix2 r l) =
      if 1 ≤ r.val ∧ r.val < 1 + 31 ∧ l.val / 8 + 1 = 0 + r.val then
        taps1 m ρ c ⟨l.val % 8, Nat.mod_lt _ (by decide)⟩ 0 2
      else (W1 m ρ c (Proc.devRef .tc main_v28) : Vec Ideal S96x256 .f32) (ix2 r l) := by
  after_reads_simp
  refine band_at (A := 31) _ rfl rfl rfl _ _ _ 1 0 (by omega) (by omega) ?_ ?_ (fun o => taps1 m ρ c o 0 2) ?_ r l
  · intro a b
    pointwise
    after_reads_simp
    pointwise
    refine (rows1_02 _).trans ?_
    rw [Shape.rowMajor_val_two]
    exact congrArg (BitVec.ofNat 32) (by show 1 + (a.val * 8 + b.val) / 8 = 1 + a.val; omega)
  · intro a b
    pointwise
    after_reads_simp
    pointwise
    refine (cols1_02 _).trans ?_
    rw [Shape.rowMajor_val_two]
    exact congrArg (BitVec.ofNat 32) (by show 0 + (a.val * 8 + b.val) = 8 * a.val + b.val; omega)
  · intro a b
    pointwise
    rfl

/-- The matrix once vertical tap 1, horizontal tap 0 is written. -/
theorem bands1_10 (c : Dev nD) (r : Fin 96) (l : Fin 256) :
    (W1 m ρ c (Proc.devRef .tc main_v56) : Vec Ideal S96x256 .f32) (ix2 r l) =
      if 32 ≤ r.val ∧ r.val < 32 + 31 ∧ l.val / 8 + 32 = 1 + r.val then
        taps1 m ρ c ⟨l.val % 8, Nat.mod_lt _ (by decide)⟩ 1 0
      else (W1 m ρ c (Proc.devRef .tc main_v42) : Vec Ideal S96x256 .f32) (ix2 r l) := by
  after_reads_simp
  refine band_at (A := 31) _ rfl rfl rfl _ _ _ 32 1 (by omega) (by omega) ?_ ?_ (fun o => taps1 m ρ c o 1 0) ?_ r l
  · intro a b
    pointwise
    after_reads_simp
    pointwise
    refine (rows1_10 _).trans ?_
    rw [Shape.rowMajor_val_two]
    exact congrArg (BitVec.ofNat 32) (by show 32 + (a.val * 8 + b.val) / 8 = 32 + a.val; omega)
  · intro a b
    pointwise
    after_reads_simp
    pointwise
    refine (cols1_10 _).trans ?_
    rw [Shape.rowMajor_val_two]
    exact congrArg (BitVec.ofNat 32) (by show 8 + (a.val * 8 + b.val) = 8 * (1 + a.val) + b.val; omega)
  · intro a b
    pointwise
    rfl

/-- The matrix once vertical tap 1, horizontal tap 1 is written. -/
theorem bands1_11 (c : Dev nD) (r : Fin 96) (l : Fin 256) :
    (W1 m ρ c (Proc.devRef .tc main_v70) : Vec Ideal S96x256 .f32) (ix2 r l) =
      if 32 ≤ r.val ∧ r.val < 32 + 32 ∧ l.val / 8 + 32 = 0 + r.val then
        taps1 m ρ c ⟨l.val % 8, Nat.mod_lt _ (by decide)⟩ 1 1
      else (W1 m ρ c (Proc.devRef .tc main_v56) : Vec Ideal S96x256 .f32) (ix2 r l) := by
  after_reads_simp
  refine band_at (A := 32) _ rfl rfl rfl _ _ _ 32 0 (by omega) (by omega) ?_ ?_ (fun o => taps1 m ρ c o 1 1) ?_ r l
  · intro a b
    pointwise
    after_reads_simp
    pointwise
    refine (rows1_11 _).trans ?_
    rw [Shape.rowMajor_val_two]
    exact congrArg (BitVec.ofNat 32) (by show 32 + (a.val * 8 + b.val) / 8 = 32 + a.val; omega)
  · intro a b
    pointwise
    after_reads_simp
    pointwise
    refine (cols1_11 _).trans ?_
    rw [Shape.rowMajor_val_two]
    exact congrArg (BitVec.ofNat 32) (by show 0 + (a.val * 8 + b.val) = 8 * a.val + b.val; omega)
  · intro a b
    pointwise
    rfl

/-- The matrix once vertical tap 1, horizontal tap 2 is written. -/
theorem bands1_12 (c : Dev nD) (r : Fin 96) (l : Fin 256) :
    (W1 m ρ c (Proc.devRef .tc main_v84) : Vec Ideal S96x256 .f32) (ix2 r l) =
      if 33 ≤ r.val ∧ r.val < 33 + 31 ∧ l.val / 8 + 33 = 0 + r.val then
        taps1 m ρ c ⟨l.val % 8, Nat.mod_lt _ (by decide)⟩ 1 2
      else (W1 m ρ c (Proc.devRef .tc main_v70) : Vec Ideal S96x256 .f32) (ix2 r l) := by
  after_reads_simp
  refine band_at (A := 31) _ rfl rfl rfl _ _ _ 33 0 (by omega) (by omega) ?_ ?_ (fun o => taps1 m ρ c o 1 2) ?_ r l
  · intro a b
    pointwise
    after_reads_simp
    pointwise
    refine (rows1_12 _).trans ?_
    rw [Shape.rowMajor_val_two]
    exact congrArg (BitVec.ofNat 32) (by show 33 + (a.val * 8 + b.val) / 8 = 33 + a.val; omega)
  · intro a b
    pointwise
    after_reads_simp
    pointwise
    refine (cols1_12 _).trans ?_
    rw [Shape.rowMajor_val_two]
    exact congrArg (BitVec.ofNat 32) (by show 0 + (a.val * 8 + b.val) = 8 * a.val + b.val; omega)
  · intro a b
    pointwise
    rfl

/-- The matrix once vertical tap 2, horizontal tap 0 is written. -/
theorem bands1_20 (c : Dev nD) (r : Fin 96) (l : Fin 256) :
    (W1 m ρ c (Proc.devRef .tc main_v98) : Vec Ideal S96x256 .f32) (ix2 r l) =
      if 64 ≤ r.val ∧ r.val < 64 + 31 ∧ l.val / 8 + 64 = 1 + r.val then
        taps1 m ρ c ⟨l.val % 8, Nat.mod_lt _ (by decide)⟩ 2 0
      else (W1 m ρ c (Proc.devRef .tc main_v84) : Vec Ideal S96x256 .f32) (ix2 r l) := by
  after_reads_simp
  refine band_at (A := 31) _ rfl rfl rfl _ _ _ 64 1 (by omega) (by omega) ?_ ?_ (fun o => taps1 m ρ c o 2 0) ?_ r l
  · intro a b
    pointwise
    after_reads_simp
    pointwise
    refine (rows1_20 _).trans ?_
    rw [Shape.rowMajor_val_two]
    exact congrArg (BitVec.ofNat 32) (by show 64 + (a.val * 8 + b.val) / 8 = 64 + a.val; omega)
  · intro a b
    pointwise
    after_reads_simp
    pointwise
    refine (cols1_20 _).trans ?_
    rw [Shape.rowMajor_val_two]
    exact congrArg (BitVec.ofNat 32) (by show 8 + (a.val * 8 + b.val) = 8 * (1 + a.val) + b.val; omega)
  · intro a b
    pointwise
    rfl

/-- The matrix once vertical tap 2, horizontal tap 1 is written. -/
theorem bands1_21 (c : Dev nD) (r : Fin 96) (l : Fin 256) :
    (W1 m ρ c (Proc.devRef .tc main_v112) : Vec Ideal S96x256 .f32) (ix2 r l) =
      if 64 ≤ r.val ∧ r.val < 64 + 32 ∧ l.val / 8 + 64 = 0 + r.val then
        taps1 m ρ c ⟨l.val % 8, Nat.mod_lt _ (by decide)⟩ 2 1
      else (W1 m ρ c (Proc.devRef .tc main_v98) : Vec Ideal S96x256 .f32) (ix2 r l) := by
  after_reads_simp
  refine band_at (A := 32) _ rfl rfl rfl _ _ _ 64 0 (by omega) (by omega) ?_ ?_ (fun o => taps1 m ρ c o 2 1) ?_ r l
  · intro a b
    pointwise
    after_reads_simp
    pointwise
    refine (rows1_21 _).trans ?_
    rw [Shape.rowMajor_val_two]
    exact congrArg (BitVec.ofNat 32) (by show 64 + (a.val * 8 + b.val) / 8 = 64 + a.val; omega)
  · intro a b
    pointwise
    after_reads_simp
    pointwise
    refine (cols1_21 _).trans ?_
    rw [Shape.rowMajor_val_two]
    exact congrArg (BitVec.ofNat 32) (by show 0 + (a.val * 8 + b.val) = 8 * a.val + b.val; omega)
  · intro a b
    pointwise
    rfl

/-- The matrix once vertical tap 2, horizontal tap 2 is written. -/
theorem bands1_22 (c : Dev nD) (r : Fin 96) (l : Fin 256) :
    (W1 m ρ c (Proc.devRef .tc main_v126) : Vec Ideal S96x256 .f32) (ix2 r l) =
      if 65 ≤ r.val ∧ r.val < 65 + 31 ∧ l.val / 8 + 65 = 0 + r.val then
        taps1 m ρ c ⟨l.val % 8, Nat.mod_lt _ (by decide)⟩ 2 2
      else (W1 m ρ c (Proc.devRef .tc main_v112) : Vec Ideal S96x256 .f32) (ix2 r l) := by
  after_reads_simp
  refine band_at (A := 31) _ rfl rfl rfl _ _ _ 65 0 (by omega) (by omega) ?_ ?_ (fun o => taps1 m ρ c o 2 2) ?_ r l
  · intro a b
    pointwise
    after_reads_simp
    pointwise
    refine (rows1_22 _).trans ?_
    rw [Shape.rowMajor_val_two]
    exact congrArg (BitVec.ofNat 32) (by show 65 + (a.val * 8 + b.val) / 8 = 65 + a.val; omega)
  · intro a b
    pointwise
    after_reads_simp
    pointwise
    refine (cols1_22 _).trans ?_
    rw [Shape.rowMajor_val_two]
    exact congrArg (BitVec.ofNat 32) (by show 0 + (a.val * 8 + b.val) = 8 * a.val + b.val; omega)
  · intro a b
    pointwise
    rfl

set_option maxHeartbeats 1600000 in
/-- The finished matrix: the weight of the tap that leads from column `xin` to column `xout`, zero off the band. -/
theorem bands1 (c : Dev nD) (r : Fin 96) (l : Fin 256) :
    (W1 m ρ c (Proc.devRef .tc main_v127) : Vec Ideal S96x256 .bf16) (ix2 r l) =
      if h : l.val / 8 ≤ r.val % 32 + 1 ∧ r.val % 32 + 1 - l.val / 8 < 3 then
        taps1 m ρ c ⟨l.val % 8, Nat.mod_lt _ (by decide)⟩ ⟨r.val / 32, by omega⟩ ⟨r.val % 32 + 1 - l.val / 8, h.2⟩
      else (0 : EReal) := by
  have top : (W1 m ρ c (Proc.devRef .tc main_v127) : Vec Ideal S96x256 .bf16) (ix2 r l)
      = (W1 m ρ c (Proc.devRef .tc main_v126) : Vec Ideal S96x256 .f32) (ix2 r l) := by
    after_reads_simp
    exact ValueIdx.truncf_apply _ _ _
  have base : (W1 m ρ c (Proc.devRef .tc main_v0) : Vec Ideal S96x256 .f32) (ix2 r l) = (0 : EReal) := by
    after_reads_simp; pointwise
  have hr := r.isLt
  have hl := l.isLt
  have tap : ∀ (a b : Fin 3) (e : r.val / 32 = a.val) (h : l.val / 8 ≤ r.val % 32 + 1 ∧ r.val % 32 + 1 - l.val / 8 < 3)
      (f : r.val % 32 + 1 - l.val / 8 = b.val), taps1 m ρ c ⟨l.val % 8, Nat.mod_lt _ (by decide)⟩ a b =
        if h : l.val / 8 ≤ r.val % 32 + 1 ∧ r.val % 32 + 1 - l.val / 8 < 3 then
          taps1 m ρ c ⟨l.val % 8, Nat.mod_lt _ (by decide)⟩ ⟨r.val / 32, by omega⟩ ⟨r.val % 32 + 1 - l.val / 8, h.2⟩
        else (0 : EReal) := by
    intro a b e h f
    rw [dif_pos h]
    exact congrArg₂ _ (Fin.ext e.symm) (Fin.ext f.symm)
  rw [top]
  rw [bands1_22]
  by_cases h22 : 65 ≤ r.val ∧ r.val < 65 + 31 ∧ l.val / 8 + 65 = 0 + r.val
  · rw [if_pos h22]
    exact tap 2 2 (by show r.val / 32 = 2; omega) (by omega) (by show r.val % 32 + 1 - l.val / 8 = 2; omega)
  rw [if_neg h22]
  rw [bands1_21]
  by_cases h21 : 64 ≤ r.val ∧ r.val < 64 + 32 ∧ l.val / 8 + 64 = 0 + r.val
  · rw [if_pos h21]
    exact tap 2 1 (by show r.val / 32 = 2; omega) (by omega) (by show r.val % 32 + 1 - l.val / 8 = 1; omega)
  rw [if_neg h21]
  rw [bands1_20]
  by_cases h20 : 64 ≤ r.val ∧ r.val < 64 + 31 ∧ l.val / 8 + 64 = 1 + r.val
  · rw [if_pos h20]
    exact tap 2 0 (by show r.val / 32 = 2; omega) (by omega) (by show r.val % 32 + 1 - l.val / 8 = 0; omega)
  rw [if_neg h20]
  rw [bands1_12]
  by_cases h12 : 33 ≤ r.val ∧ r.val < 33 + 31 ∧ l.val / 8 + 33 = 0 + r.val
  · rw [if_pos h12]
    exact tap 1 2 (by show r.val / 32 = 1; omega) (by omega) (by show r.val % 32 + 1 - l.val / 8 = 2; omega)
  rw [if_neg h12]
  rw [bands1_11]
  by_cases h11 : 32 ≤ r.val ∧ r.val < 32 + 32 ∧ l.val / 8 + 32 = 0 + r.val
  · rw [if_pos h11]
    exact tap 1 1 (by show r.val / 32 = 1; omega) (by omega) (by show r.val % 32 + 1 - l.val / 8 = 1; omega)
  rw [if_neg h11]
  rw [bands1_10]
  by_cases h10 : 32 ≤ r.val ∧ r.val < 32 + 31 ∧ l.val / 8 + 32 = 1 + r.val
  · rw [if_pos h10]
    exact tap 1 0 (by show r.val / 32 = 1; omega) (by omega) (by show r.val % 32 + 1 - l.val / 8 = 0; omega)
  rw [if_neg h10]
  rw [bands1_02]
  by_cases h02 : 1 ≤ r.val ∧ r.val < 1 + 31 ∧ l.val / 8 + 1 = 0 + r.val
  · rw [if_pos h02]
    exact tap 0 2 (by show r.val / 32 = 0; omega) (by omega) (by show r.val % 32 + 1 - l.val / 8 = 2; omega)
  rw [if_neg h02]
  rw [bands1_01]
  by_cases h01 : 0 ≤ r.val ∧ r.val < 0 + 32 ∧ l.val / 8 + 0 = 0 + r.val
  · rw [if_pos h01]
    exact tap 0 1 (by show r.val / 32 = 0; omega) (by omega) (by show r.val % 32 + 1 - l.val / 8 = 1; omega)
  rw [if_neg h01]
  rw [bands1_00]
  by_cases h00 : 0 ≤ r.val ∧ r.val < 0 + 31 ∧ l.val / 8 + 0 = 1 + r.val
  · rw [if_pos h00]
    exact tap 0 0 (by show r.val / 32 = 0; omega) (by omega) (by show r.val % 32 + 1 - l.val / 8 = 0; omega)
  rw [if_neg h00]
  rw [base, dif_neg (by omega)]

end Cert.Bands

end
-- ==== Proof.Bands2.lean ====
/- The second convolution's three matrices of bands, as the host builds them: matrix `dy`, row `16 xin + ic`, column
   `16 xout + oc`; the rows `16 xin + 8` to `16 xin + 15` stay zero. -/
module

public import proofs.«01_k».proof.Proof.Gen.KernelIdeal.Frame
public import proofs.«01_k».proof.Proof.Tables
public import proofs.«01_k».proof.Proof.Paint
public import Idealize.ShloMosaic.Lib.StableHlo.ReadAt

@[expose] public section

set_option maxRecDepth 16384

noncomputable section

namespace Cert.Bands

open Cert.KernelIdeal Cert.KernelIdeal.Gen
open Idealize.ShloMosaic Idealize.ShloMosaic.TcCoe

variable (m : (ℓ : Loc nD τ sig) → Buf (Elt Ideal) ℓ) (ρ : Dev nD → PrngReg)

/-- The second convolution's weights, by output channel, input channel (zero from 8 on) and tap. -/
def taps2 (c : Dev nD) (o : Fin 16) (i : ℕ) (dy dx : Fin 3) : EReal :=
  if h : i < 8 then (W0 m ρ c (Proc.devRef .tc main_arg4) : Vec Ideal S16x8x3x3 .f32) (ix4 o ⟨i, h⟩ dy dx) else 0

/-- The matrices once vertical tap 0, horizontal tap 0 is written. -/
theorem bands2_00 (c : Dev nD) (f : Fin 3) (r l : Fin 256) :
    (W1 m ρ c (Proc.devRef .tc main_v146) : Vec Ideal S3x256x256 .f32) (ix3 f r l) =
      if f.val = 0 ∧ r.val % 16 < 8 ∧ 0 ≤ r.val / 16 ∧ r.val / 16 < 0 + 15 ∧ l.val / 16 + 0 = 1 + r.val / 16 then
        taps2 m ρ c ⟨l.val % 16, Nat.mod_lt _ (by decide)⟩ (r.val % 16) 0 0
      else (W1 m ρ c (Proc.devRef .tc main_v128) : Vec Ideal S3x256x256 .f32) (ix3 f r l) := by
  after_reads_simp
  refine slab_at (A := 15) _ rfl rfl rfl _ _ _ 0 0 1 (by omega) (by omega) (by omega) ?_ ?_ ?_
    (fun i o => taps2 m ρ c o i 0 0) ?_ f r l
  · intro a i o
    pointwise
    after_reads_simp
    simp only [id_eq]
    pointwise
  · intro a i o
    have hi := i.isLt
    have ho := o.isLt
    pointwise
    after_reads_simp
    pointwise
    refine (rows2_00 _).trans ?_
    rw [Shape.rowMajor_val_three]
    exact congrArg (BitVec.ofNat 32) (by
      show 16 * (0 + ((a.val * 8 + i.val) * 16 + o.val) / 128) + ((a.val * 8 + i.val) * 16 + o.val) / 16 % 8
        = 16 * a.val + i.val
      omega)
  · intro a i o
    have hi := i.isLt
    have ho := o.isLt
    pointwise
    after_reads_simp
    pointwise
    refine (cols2_00 _).trans ?_
    rw [Shape.rowMajor_val_three]
    exact congrArg (BitVec.ofNat 32) (by
      show 16 * (1 + ((a.val * 8 + i.val) * 16 + o.val) / 128) + ((a.val * 8 + i.val) * 16 + o.val) % 16
        = 16 * (1 + a.val) + o.val
      omega)
  · intro a i o
    unfold taps2
    rw [dif_pos i.isLt]
    pointwise

/-- The matrices once vertical tap 0, horizontal tap 1 is written. -/
theorem bands2_01 (c : Dev nD) (f : Fin 3) (r l : Fin 256) :
    (W1 m ρ c (Proc.devRef .tc main_v164) : Vec Ideal S3x256x256 .f32) (ix3 f r l) =
      if f.val = 0 ∧ r.val % 16 < 8 ∧ 0 ≤ r.val / 16 ∧ r.val / 16 < 0 + 16 ∧ l.val / 16 + 0 = 0 + r.val / 16 then
        taps2 m ρ c ⟨l.val % 16, Nat.mod_lt _ (by decide)⟩ (r.val % 16) 0 1
      else (W1 m ρ c (Proc.devRef .tc main_v146) : Vec Ideal S3x256x256 .f32) (ix3 f r l) := by
  after_reads_simp
  refine slab_at (A := 16) _ rfl rfl rfl _ _ _ 0 0 0 (by omega) (by omega) (by omega) ?_ ?_ ?_
    (fun i o => taps2 m ρ c o i 0 1) ?_ f r l
  · intro a i o
    pointwise
    after_reads_simp
    simp only [id_eq]
    pointwise
  · intro a i o
    have hi := i.isLt
    have ho := o.isLt
    pointwise
    after_reads_simp
    pointwise
    refine (rows2_01 _).trans ?_
    rw [Shape.rowMajor_val_three]
    exact congrArg (BitVec.ofNat 32) (by
      show 16 * (0 + ((a.val * 8 + i.val) * 16 + o.val) / 128) + ((a.val * 8 + i.val) * 16 + o.val) / 16 % 8
        = 16 * a.val + i.val
      omega)
  · intro a i o
    have hi := i.isLt
    have ho := o.isLt
    pointwise
    after_reads_simp
    pointwise
    refine (cols2_01 _).trans ?_
    rw [Shape.rowMajor_val_three]
    exact congrArg (BitVec.ofNat 32) (by
      show 16 * (0 + ((a.val * 8 + i.val) * 16 + o.val) / 128) + ((a.val * 8 + i.val) * 16 + o.val) % 16
        = 16 * a.val + o.val
      omega)
  · intro a i o
    unfold taps2
    rw [dif_pos i.isLt]
    pointwise

/-- The matrices once vertical tap 0, horizontal tap 2 is written. -/
theorem bands2_02 (c : Dev nD) (f : Fin 3) (r l : Fin 256) :
    (W1 m ρ c (Proc.devRef .tc main_v182) : Vec Ideal S3x256x256 .f32) (ix3 f r l) =
      if f.val = 0 ∧ r.val % 16 < 8 ∧ 1 ≤ r.val / 16 ∧ r.val / 16 < 1 + 15 ∧ l.val / 16 + 1 = 0 + r.val / 16 then
        taps2 m ρ c ⟨l.val % 16, Nat.mod_lt _ (by decide)⟩ (r.val % 16) 0 2
      else (W1 m ρ c (Proc.devRef .tc main_v164) : Vec Ideal S3x256x256 .f32) (ix3 f r l) := by
  after_reads_simp
  refine slab_at (A := 15) _ rfl rfl rfl _ _ _ 0 1 0 (by omega) (by omega) (by omega) ?_ ?_ ?_
    (fun i o => taps2 m ρ c o i 0 2) ?_ f r l
  · intro a i o
    pointwise
    after_reads_simp
    simp only [id_eq]
    pointwise
  · intro a i o
    have hi := i.isLt
    have ho := o.isLt
    pointwise
    after_reads_simp
    pointwise
    refine (rows2_02 _).trans ?_
    rw [Shape.rowMajor_val_three]
    exact congrArg (BitVec.ofNat 32) (by
      show 16 * (1 + ((a.val * 8 + i.val) * 16 + o.val) / 128) + ((a.val * 8 + i.val) * 16 + o.val) / 16 % 8
        = 16 * (1 + a.val) + i.val
      omega)
  · intro a i o
    have hi := i.isLt
    have ho := o.isLt
    pointwise
    after_reads_simp
    pointwise
    refine (cols2_02 _).trans ?_
    rw [Shape.rowMajor_val_three]
    exact congrArg (BitVec.ofNat 32) (by
      show 16 * (0 + ((a.val * 8 + i.val) * 16 + o.val) / 128) + ((a.val * 8 + i.val) * 16 + o.val) % 16
        = 16 * a.val + o.val
      omega)
  · intro a i o
    unfold taps2
    rw [dif_pos i.isLt]
    pointwise

/-- The matrices once vertical tap 1, horizontal tap 0 is written. -/
theorem bands2_10 (c : Dev nD) (f : Fin 3) (r l : Fin 256) :
    (W1 m ρ c (Proc.devRef .tc main_v200) : Vec Ideal S3x256x256 .f32) (ix3 f r l) =
      if f.val = 1 ∧ r.val % 16 < 8 ∧ 0 ≤ r.val / 16 ∧ r.val / 16 < 0 + 15 ∧ l.val / 16 + 0 = 1 + r.val / 16 then
        taps2 m ρ c ⟨l.val % 16, Nat.mod_lt _ (by decide)⟩ (r.val % 16) 1 0
      else (W1 m ρ c (Proc.devRef .tc main_v182) : Vec Ideal S3x256x256 .f32) (ix3 f r l) := by
  after_reads_simp
  refine slab_at (A := 15) _ rfl rfl rfl _ _ _ 1 0 1 (by omega) (by omega) (by omega) ?_ ?_ ?_
    (fun i o => taps2 m ρ c o i 1 0) ?_ f r l
  · intro a i o
    pointwise
    after_reads_simp
    simp only [id_eq]
    pointwise
  · intro a i o
    have hi := i.isLt
    have ho := o.isLt
    pointwise
    after_reads_simp
    pointwise
    refine (rows2_10 _).trans ?_
    rw [Shape.rowMajor_val_three]
    exact congrArg (BitVec.ofNat 32) (by
      show 16 * (0 + ((a.val * 8 + i.val) * 16 + o.val) / 128) + ((a.val * 8 + i.val) * 16 + o.val) / 16 % 8
        = 16 * a.val + i.val
      omega)
  · intro a i o
    have hi := i.isLt
    have ho := o.isLt
    pointwise
    after_reads_simp
    pointwise
    refine (cols2_10 _).trans ?_
    rw [Shape.rowMajor_val_three]
    exact congrArg (BitVec.ofNat 32) (by
      show 16 * (1 + ((a.val * 8 + i.val) * 16 + o.val) / 128) + ((a.val * 8 + i.val) * 16 + o.val) % 16
        = 16 * (1 + a.val) + o.val
      omega)
  · intro a i o
    unfold taps2
    rw [dif_pos i.isLt]
    pointwise

/-- The matrices once vertical tap 1, horizontal tap 1 is written. -/
theorem bands2_11 (c : Dev nD) (f : Fin 3) (r l : Fin 256) :
    (W1 m ρ c (Proc.devRef .tc main_v218) : Vec Ideal S3x256x256 .f32) (ix3 f r l) =
      if f.val = 1 ∧ r.val % 16 < 8 ∧ 0 ≤ r.val / 16 ∧ r.val / 16 < 0 + 16 ∧ l.val / 16 + 0 = 0 + r.val / 16 then
        taps2 m ρ c ⟨l.val % 16, Nat.mod_lt _ (by decide)⟩ (r.val % 16) 1 1
      else (W1 m ρ c (Proc.devRef .tc main_v200) : Vec Ideal S3x256x256 .f32) (ix3 f r l) := by
  after_reads_simp
  refine slab_at (A := 16) _ rfl rfl rfl _ _ _ 1 0 0 (by omega) (by omega) (by omega) ?_ ?_ ?_
    (fun i o => taps2 m ρ c o i 1 1) ?_ f r l
  · intro a i o
    pointwise
    after_reads_simp
    simp only [id_eq]
    pointwise
  · intro a i o
    have hi := i.isLt
    have ho := o.isLt
    pointwise
    after_reads_simp
    pointwise
    refine (rows2_11 _).trans ?_
    rw [Shape.rowMajor_val_three]
    exact congrArg (BitVec.ofNat 32) (by
      show 16 * (0 + ((a.val * 8 + i.val) * 16 + o.val) / 128) + ((a.val * 8 + i.val) * 16 + o.val) / 16 % 8
        = 16 * a.val + i.val
      omega)
  · intro a i o
    have hi := i.isLt
    have ho := o.isLt
    pointwise
    after_reads_simp
    pointwise
    refine (cols2_11 _).trans ?_
    rw [Shape.rowMajor_val_three]
    exact congrArg (BitVec.ofNat 32) (by
      show 16 * (0 + ((a.val * 8 + i.val) * 16 + o.val) / 128) + ((a.val * 8 + i.val) * 16 + o.val) % 16
        = 16 * a.val + o.val
      omega)
  · intro a i o
    unfold taps2
    rw [dif_pos i.isLt]
    pointwise

/-- The matrices once vertical tap 1, horizontal tap 2 is written. -/
theorem bands2_12 (c : Dev nD) (f : Fin 3) (r l : Fin 256) :
    (W1 m ρ c (Proc.devRef .tc main_v236) : Vec Ideal S3x256x256 .f32) (ix3 f r l) =
      if f.val = 1 ∧ r.val % 16 < 8 ∧ 1 ≤ r.val / 16 ∧ r.val / 16 < 1 + 15 ∧ l.val / 16 + 1 = 0 + r.val / 16 then
        taps2 m ρ c ⟨l.val % 16, Nat.mod_lt _ (by decide)⟩ (r.val % 16) 1 2
      else (W1 m ρ c (Proc.devRef .tc main_v218) : Vec Ideal S3x256x256 .f32) (ix3 f r l) := by
  after_reads_simp
  refine slab_at (A := 15) _ rfl rfl rfl _ _ _ 1 1 0 (by omega) (by omega) (by omega) ?_ ?_ ?_
    (fun i o => taps2 m ρ c o i 1 2) ?_ f r l
  · intro a i o
    pointwise
    after_reads_simp
    simp only [id_eq]
    pointwise
  · intro a i o
    have hi := i.isLt
    have ho := o.isLt
    pointwise
    after_reads_simp
    pointwise
    refine (rows2_12 _).trans ?_
    rw [Shape.rowMajor_val_three]
    exact congrArg (BitVec.ofNat 32) (by
      show 16 * (1 + ((a.val * 8 + i.val) * 16 + o.val) / 128) + ((a.val * 8 + i.val) * 16 + o.val) / 16 % 8
        = 16 * (1 + a.val) + i.val
      omega)
  · intro a i o
    have hi := i.isLt
    have ho := o.isLt
    pointwise
    after_reads_simp
    pointwise
    refine (cols2_12 _).trans ?_
    rw [Shape.rowMajor_val_three]
    exact congrArg (BitVec.ofNat 32) (by
      show 16 * (0 + ((a.val * 8 + i.val) * 16 + o.val) / 128) + ((a.val * 8 + i.val) * 16 + o.val) % 16
        = 16 * a.val + o.val
      omega)
  · intro a i o
    unfold taps2
    rw [dif_pos i.isLt]
    pointwise

/-- The matrices once vertical tap 2, horizontal tap 0 is written. -/
theorem bands2_20 (c : Dev nD) (f : Fin 3) (r l : Fin 256) :
    (W1 m ρ c (Proc.devRef .tc main_v254) : Vec Ideal S3x256x256 .f32) (ix3 f r l) =
      if f.val = 2 ∧ r.val % 16 < 8 ∧ 0 ≤ r.val / 16 ∧ r.val / 16 < 0 + 15 ∧ l.val / 16 + 0 = 1 + r.val / 16 then
        taps2 m ρ c ⟨l.val % 16, Nat.mod_lt _ (by decide)⟩ (r.val % 16) 2 0
      else (W1 m ρ c (Proc.devRef .tc main_v236) : Vec Ideal S3x256x256 .f32) (ix3 f r l) := by
  after_reads_simp
  refine slab_at (A := 15) _ rfl rfl rfl _ _ _ 2 0 1 (by omega) (by omega) (by omega) ?_ ?_ ?_
    (fun i o => taps2 m ρ c o i 2 0) ?_ f r l
  · intro a i o
    pointwise
    after_reads_simp
    simp only [id_eq]
    pointwise
  · intro a i o
    have hi := i.isLt
    have ho := o.isLt
    pointwise
    after_reads_simp
    pointwise
    refine (rows2_20 _).trans ?_
    rw [Shape.rowMajor_val_three]
    exact congrArg (BitVec.ofNat 32) (by
      show 16 * (0 + ((a.val * 8 + i.val) * 16 + o.val) / 128) + ((a.val * 8 + i.val) * 16 + o.val) / 16 % 8
        = 16 * a.val + i.val
      omega)
  · intro a i o
    have hi := i.isLt
    have ho := o.isLt
    pointwise
    after_reads_simp
    pointwise
    refine (cols2_20 _).trans ?_
    rw [Shape.rowMajor_val_three]
    exact congrArg (BitVec.ofNat 32) (by
      show 16 * (1 + ((a.val * 8 + i.val) * 16 + o.val) / 128) + ((a.val * 8 + i.val) * 16 + o.val) % 16
        = 16 * (1 + a.val) + o.val
      omega)
  · intro a i o
    unfold taps2
    rw [dif_pos i.isLt]
    pointwise

/-- The matrices once vertical tap 2, horizontal tap 1 is written. -/
theorem bands2_21 (c : Dev nD) (f : Fin 3) (r l : Fin 256) :
    (W1 m ρ c (Proc.devRef .tc main_v272) : Vec Ideal S3x256x256 .f32) (ix3 f r l) =
      if f.val = 2 ∧ r.val % 16 < 8 ∧ 0 ≤ r.val / 16 ∧ r.val / 16 < 0 + 16 ∧ l.val / 16 + 0 = 0 + r.val / 16 then
        taps2 m ρ c ⟨l.val % 16, Nat.mod_lt _ (by decide)⟩ (r.val % 16) 2 1
      else (W1 m ρ c (Proc.devRef .tc main_v254) : Vec Ideal S3x256x256 .f32) (ix3 f r l) := by
  after_reads_simp
  refine slab_at (A := 16) _ rfl rfl rfl _ _ _ 2 0 0 (by omega) (by omega) (by omega) ?_ ?_ ?_
    (fun i o => taps2 m ρ c o i 2 1) ?_ f r l
  · intro a i o
    pointwise
    after_reads_simp
    simp only [id_eq]
    pointwise
  · intro a i o
    have hi := i.isLt
    have ho := o.isLt
    pointwise
    after_reads_simp
    pointwise
    refine (rows2_21 _).trans ?_
    rw [Shape.rowMajor_val_three]
    exact congrArg (BitVec.ofNat 32) (by
      show 16 * (0 + ((a.val * 8 + i.val) * 16 + o.val) / 128) + ((a.val * 8 + i.val) * 16 + o.val) / 16 % 8
        = 16 * a.val + i.val
      omega)
  · intro a i o
    have hi := i.isLt
    have ho := o.isLt
    pointwise
    after_reads_simp
    pointwise
    refine (cols2_21 _).trans ?_
    rw [Shape.rowMajor_val_three]
    exact congrArg (BitVec.ofNat 32) (by
      show 16 * (0 + ((a.val * 8 + i.val) * 16 + o.val) / 128) + ((a.val * 8 + i.val) * 16 + o.val) % 16
        = 16 * a.val + o.val
      omega)
  · intro a i o
    unfold taps2
    rw [dif_pos i.isLt]
    pointwise

/-- The matrices once vertical tap 2, horizontal tap 2 is written. -/
theorem bands2_22 (c : Dev nD) (f : Fin 3) (r l : Fin 256) :
    (W1 m ρ c (Proc.devRef .tc main_v290) : Vec Ideal S3x256x256 .f32) (ix3 f r l) =
      if f.val = 2 ∧ r.val % 16 < 8 ∧ 1 ≤ r.val / 16 ∧ r.val / 16 < 1 + 15 ∧ l.val / 16 + 1 = 0 + r.val / 16 then
        taps2 m ρ c ⟨l.val % 16, Nat.mod_lt _ (by decide)⟩ (r.val % 16) 2 2
      else (W1 m ρ c (Proc.devRef .tc main_v272) : Vec Ideal S3x256x256 .f32) (ix3 f r l) := by
  after_reads_simp
  refine slab_at (A := 15) _ rfl rfl rfl _ _ _ 2 1 0 (by omega) (by omega) (by omega) ?_ ?_ ?_
    (fun i o => taps2 m ρ c o i 2 2) ?_ f r l
  · intro a i o
    pointwise
    after_reads_simp
    simp only [id_eq]
    pointwise
  · intro a i o
    have hi := i.isLt
    have ho := o.isLt
    pointwise
    after_reads_simp
    pointwise
    refine (rows2_22 _).trans ?_
    rw [Shape.rowMajor_val_three]
    exact congrArg (BitVec.ofNat 32) (by
      show 16 * (1 + ((a.val * 8 + i.val) * 16 + o.val) / 128) + ((a.val * 8 + i.val) * 16 + o.val) / 16 % 8
        = 16 * (1 + a.val) + i.val
      omega)
  · intro a i o
    have hi := i.isLt
    have ho := o.isLt
    pointwise
    after_reads_simp
    pointwise
    refine (cols2_22 _).trans ?_
    rw [Shape.rowMajor_val_three]
    exact congrArg (BitVec.ofNat 32) (by
      show 16 * (0 + ((a.val * 8 + i.val) * 16 + o.val) / 128) + ((a.val * 8 + i.val) * 16 + o.val) % 16
        = 16 * a.val + o.val
      omega)
  · intro a i o
    unfold taps2
    rw [dif_pos i.isLt]
    pointwise

set_option maxHeartbeats 1600000 in
/-- The finished matrices: the weight of the tap that leads from column `xin` to column `xout`, zero off the band. -/
theorem bands2 (c : Dev nD) (f : Fin 3) (r l : Fin 256) :
    (W1 m ρ c (Proc.devRef .tc main_v291) : Vec Ideal S3x256x256 .bf16) (ix3 f r l) =
      if h : l.val / 16 ≤ r.val / 16 + 1 ∧ r.val / 16 + 1 - l.val / 16 < 3 then
        taps2 m ρ c ⟨l.val % 16, Nat.mod_lt _ (by decide)⟩ (r.val % 16) f ⟨r.val / 16 + 1 - l.val / 16, h.2⟩
      else (0 : EReal) := by
  have top : (W1 m ρ c (Proc.devRef .tc main_v291) : Vec Ideal S3x256x256 .bf16) (ix3 f r l)
      = (W1 m ρ c (Proc.devRef .tc main_v290) : Vec Ideal S3x256x256 .f32) (ix3 f r l) := by
    after_reads_simp
    exact ValueIdx.truncf_apply _ _ _
  have base : (W1 m ρ c (Proc.devRef .tc main_v128) : Vec Ideal S3x256x256 .f32) (ix3 f r l) = (0 : EReal) := by
    after_reads_simp; pointwise
  have hr := r.isLt
  have hl := l.isLt
  have hf := f.isLt
  have tap : ∀ (a b : Fin 3) (e : f.val = a.val) (h : l.val / 16 ≤ r.val / 16 + 1 ∧ r.val / 16 + 1 - l.val / 16 < 3)
      (g : r.val / 16 + 1 - l.val / 16 = b.val), taps2 m ρ c ⟨l.val % 16, Nat.mod_lt _ (by decide)⟩ (r.val % 16) a b =
        if h : l.val / 16 ≤ r.val / 16 + 1 ∧ r.val / 16 + 1 - l.val / 16 < 3 then
          taps2 m ρ c ⟨l.val % 16, Nat.mod_lt _ (by decide)⟩ (r.val % 16) f ⟨r.val / 16 + 1 - l.val / 16, h.2⟩
        else (0 : EReal) := by
    intro a b e h g
    rw [dif_pos h]
    exact congrArg₂ _ (Fin.ext e.symm) (Fin.ext g.symm)
  rw [top]
  rw [bands2_22]
  by_cases h22 : f.val = 2 ∧ r.val % 16 < 8 ∧ 1 ≤ r.val / 16 ∧ r.val / 16 < 1 + 15 ∧ l.val / 16 + 1 = 0 + r.val / 16
  · rw [if_pos h22]
    exact tap 2 2 h22.1 (by omega) (by show r.val / 16 + 1 - l.val / 16 = 2; omega)
  rw [if_neg h22]
  rw [bands2_21]
  by_cases h21 : f.val = 2 ∧ r.val % 16 < 8 ∧ 0 ≤ r.val / 16 ∧ r.val / 16 < 0 + 16 ∧ l.val / 16 + 0 = 0 + r.val / 16
  · rw [if_pos h21]
    exact tap 2 1 h21.1 (by omega) (by show r.val / 16 + 1 - l.val / 16 = 1; omega)
  rw [if_neg h21]
  rw [bands2_20]
  by_cases h20 : f.val = 2 ∧ r.val % 16 < 8 ∧ 0 ≤ r.val / 16 ∧ r.val / 16 < 0 + 15 ∧ l.val / 16 + 0 = 1 + r.val / 16
  · rw [if_pos h20]
    exact tap 2 0 h20.1 (by omega) (by show r.val / 16 + 1 - l.val / 16 = 0; omega)
  rw [if_neg h20]
  rw [bands2_12]
  by_cases h12 : f.val = 1 ∧ r.val % 16 < 8 ∧ 1 ≤ r.val / 16 ∧ r.val / 16 < 1 + 15 ∧ l.val / 16 + 1 = 0 + r.val / 16
  · rw [if_pos h12]
    exact tap 1 2 h12.1 (by omega) (by show r.val / 16 + 1 - l.val / 16 = 2; omega)
  rw [if_neg h12]
  rw [bands2_11]
  by_cases h11 : f.val = 1 ∧ r.val % 16 < 8 ∧ 0 ≤ r.val / 16 ∧ r.val / 16 < 0 + 16 ∧ l.val / 16 + 0 = 0 + r.val / 16
  · rw [if_pos h11]
    exact tap 1 1 h11.1 (by omega) (by show r.val / 16 + 1 - l.val / 16 = 1; omega)
  rw [if_neg h11]
  rw [bands2_10]
  by_cases h10 : f.val = 1 ∧ r.val % 16 < 8 ∧ 0 ≤ r.val / 16 ∧ r.val / 16 < 0 + 15 ∧ l.val / 16 + 0 = 1 + r.val / 16
  · rw [if_pos h10]
    exact tap 1 0 h10.1 (by omega) (by show r.val / 16 + 1 - l.val / 16 = 0; omega)
  rw [if_neg h10]
  rw [bands2_02]
  by_cases h02 : f.val = 0 ∧ r.val % 16 < 8 ∧ 1 ≤ r.val / 16 ∧ r.val / 16 < 1 + 15 ∧ l.val / 16 + 1 = 0 + r.val / 16
  · rw [if_pos h02]
    exact tap 0 2 h02.1 (by omega) (by show r.val / 16 + 1 - l.val / 16 = 2; omega)
  rw [if_neg h02]
  rw [bands2_01]
  by_cases h01 : f.val = 0 ∧ r.val % 16 < 8 ∧ 0 ≤ r.val / 16 ∧ r.val / 16 < 0 + 16 ∧ l.val / 16 + 0 = 0 + r.val / 16
  · rw [if_pos h01]
    exact tap 0 1 h01.1 (by omega) (by show r.val / 16 + 1 - l.val / 16 = 1; omega)
  rw [if_neg h01]
  rw [bands2_00]
  by_cases h00 : f.val = 0 ∧ r.val % 16 < 8 ∧ 0 ≤ r.val / 16 ∧ r.val / 16 < 0 + 15 ∧ l.val / 16 + 0 = 1 + r.val / 16
  · rw [if_pos h00]
    exact tap 0 0 h00.1 (by omega) (by show r.val / 16 + 1 - l.val / 16 = 0; omega)
  rw [if_neg h00]
  rw [base]
  by_cases h : l.val / 16 ≤ r.val / 16 + 1 ∧ r.val / 16 + 1 - l.val / 16 < 3
  · rw [dif_pos h]
    unfold taps2
    rw [dif_neg (by omega)]
  · rw [dif_neg h]

end Cert.Bands

end
-- ==== Proof.Sums.lean ====
/- Sums: one axis split in two, the sum along one row of a banded matrix, and sums of products over the extended reals. -/
module

public import Idealize.ShloMosaic.PureOps.Ideal

@[expose] public section

open scoped BigOperators

namespace Cert.Sums

/-- A sum over `A * B` positions, by rows of `B`. -/
theorem split {M : Type} [AddCommMonoid M] {A B N : ℕ} (h : N = A * B) (f : Fin N → M) :
    ∑ k, f k = ∑ a : Fin A, ∑ b : Fin B, f ⟨B * a.val + b.val, by
      have ha := a.isLt; have hb := b.isLt
      have h1 : B * a.val + B ≤ B * A := by rw [← Nat.mul_succ]; exact Nat.mul_le_mul_left _ ha
      rw [h, Nat.mul_comm A B]; omega⟩ := by
  subst h
  rw [← finProdFinEquiv.sum_comp, Fintype.sum_prod_type]
  refine Finset.sum_congr rfl fun a _ => Finset.sum_congr rfl fun b _ => congrArg f (Fin.ext ?_)
  show b.val + B * a.val = B * a.val + b.val
  omega

/-- Row `x` of a band of width three over `N` columns: the three columns `x - 1`, `x`, `x + 1`, those that exist. -/
theorem band {M : Type} [AddCommMonoid M] {N : ℕ} (x : ℕ) (G : Fin N → Fin 3 → M) :
    (∑ c : Fin N, if h : x ≤ c.val + 1 ∧ c.val + 1 - x < 3 then G c ⟨c.val + 1 - x, h.2⟩ else 0) =
      ∑ d : Fin 3, if h : 1 ≤ x + d.val ∧ x + d.val ≤ N then G ⟨x + d.val - 1, by omega⟩ d else 0 := by
  have hl : ∀ c : Fin N, (if h : x ≤ c.val + 1 ∧ c.val + 1 - x < 3 then G c ⟨c.val + 1 - x, h.2⟩ else 0) =
      ∑ d : Fin 3, if c.val + 1 = x + d.val then G c d else 0 := by
    intro c
    by_cases h : x ≤ c.val + 1 ∧ c.val + 1 - x < 3
    · rw [dif_pos h, Finset.sum_eq_single ⟨c.val + 1 - x, h.2⟩]
      · rw [if_pos]; show c.val + 1 = x + (c.val + 1 - x); omega
      · intro d _ hd
        rw [if_neg]
        intro he
        exact hd (Fin.ext (by show d.val = c.val + 1 - x; omega))
      · intro hn; exact absurd (Finset.mem_univ _) hn
    · rw [dif_neg h, Finset.sum_eq_zero]
      intro d _
      rw [if_neg]
      have := d.isLt
      omega
  rw [Finset.sum_congr rfl fun c _ => hl c, Finset.sum_comm]
  refine Finset.sum_congr rfl fun d _ => ?_
  by_cases h : 1 ≤ x + d.val ∧ x + d.val ≤ N
  · rw [dif_pos h, Finset.sum_eq_single ⟨x + d.val - 1, by omega⟩]
    · rw [if_pos]; show x + d.val - 1 + 1 = x + d.val; omega
    · intro c _ hc
      rw [if_neg]
      intro he
      exact hc (Fin.ext (by show c.val = x + d.val - 1; omega))
    · intro hn; exact absurd (Finset.mem_univ _) hn
  · rw [dif_neg h, Finset.sum_eq_zero]
    intro c _
    rw [if_neg]
    have := c.isLt
    omega

/-- Sixteen terms of which the last eight vanish. -/
theorem half {M : Type} [AddCommMonoid M] (f : Fin 16 → M) (h : ∀ i : Fin 16, 8 ≤ i.val → f i = 0) :
    ∑ i, f i = ∑ i : Fin 8, f ⟨i.val, by omega⟩ := by
  rw [Fin.sum_univ_add (a := 8) (b := 8) (f := f)]
  rw [Finset.sum_eq_zero (s := Finset.univ) (f := fun i : Fin 8 => f (Fin.natAdd 8 i))
    fun i _ => h _ (by show 8 ≤ 8 + i.val; omega), add_zero]
  rfl

/-- A sum over 32 rows in which the odd ones vanish. -/
theorem evens {M : Type} [AddCommMonoid M] (f : Fin 32 → M) (h : ∀ y : Fin 32, y.val % 2 = 1 → f y = 0) :
    ∑ y, f y = ∑ y : Fin 16, f ⟨2 * y.val, by omega⟩ := by
  rw [split (A := 16) (B := 2) rfl f]
  refine Finset.sum_congr rfl fun y _ => ?_
  rw [Fin.sum_univ_two, h ⟨2 * y.val + (1 : Fin 2).val, _⟩ (by show (2 * y.val + 1) % 2 = 1; omega), add_zero]
  rfl

/-- A sum of terms that are not negative, times a constant. -/
theorem mul_right {ι : Type} (s : Finset ι) (f : ι → EReal) (h : ∀ i ∈ s, 0 ≤ f i) (c : EReal) :
    (∑ i ∈ s, f i) * c = ∑ i ∈ s, f i * c := by
  classical
  induction s using Finset.induction_on with
  | empty => simp
  | insert a t ha ih =>
    rw [Finset.sum_insert ha, Finset.sum_insert ha,
      EReal.right_distrib_of_nonneg (h a (Finset.mem_insert_self _ _))
        (Finset.sum_nonneg fun i hi => h i (Finset.mem_insert_of_mem hi)),
      ih fun i hi => h i (Finset.mem_insert_of_mem hi)]

/-- Any sum, times a constant that is positive and finite. -/
theorem mul_scale {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a t ha ih =>
    rw [Finset.sum_insert ha, Finset.sum_insert ha, EReal.right_distrib_of_nonneg_of_ne_top h0 ht, ih]

end Cert.Sums
-- ==== Proof.Block1.lean ====
/- One block of 128 images: the row numbers within an image, and the first convolution as one product with the band
   matrix. Row `32 n + y` of a block is row `y` of image `n`; lane `8 x + o` is column `x` of map `o`. -/
module

public import proofs.«01_k».proof.Proof.Gen.KernelIdeal.Frame
public import proofs.«01_k».proof.Proof.Spec
public import proofs.«01_k».proof.Proof.Sums
public import Idealize.ShloMosaic.Lib.Pointwise
public import Idealize.ShloMosaic.Lib.WordCmp
public import Idealize.ShloMosaic.Lib.Routing.Words

@[expose] public section

set_option maxRecDepth 400000

noncomputable section

namespace Cert.Block

open Cert.KernelIdeal Cert.KernelIdeal.Gen
open Idealize.ShloMosaic Idealize.ShloMosaic.TcCoe
open scoped BigOperators

/-- The remainder with the divisor's sign, on words that hold small naturals. -/
theorem mod_word (a m : ℕ) (ha : a < 2 ^ 31) (h0 : 0 < m) (hm : m < 2 ^ 31) (c : BitVec 1) (x : BitVec 32) :
    Scalar.select
      (IntOp.andi (IntOp.xori (IntOp.cmpi .slt (IntOp.remsi .vector (BitVec.ofNat 32 a) (BitVec.ofNat 32 m)) 0#32) 0#1) c)
      x (IntOp.remsi .vector (BitVec.ofNat 32 a) (BitVec.ofNat 32 m)) = BitVec.ofNat 32 (a % m) := by
  have hlt : a % m < m := Nat.mod_lt _ h0
  rw [Routing.remsi_word _ ha h0 hm, WordCmp.cmpi_slt_ofNat (w := 32) (b := 0) (by omega) (by omega)]
  have : decide (a % m < 0) = false := by simp
  rw [this]
  have h1 : IntOp.andi (IntOp.xori (BitVec.ofBool false) 0#1) c = 0#1 := by
    revert c; decide
  rw [h1]
  rfl

/-- The row's number within its image. -/
theorem rowNumber (r : Fin 4096) : k0_pay2 (ix2 r 0) = BitVec.ofNat 32 (r.val % 32) := by
  pointwise [k0_pay2]
  exact mod_word r.val 32 (by omega) (by decide) (by decide) _ _

variable (x : Vec Ideal S128x32x32 .f32)

/-- Image `n` of the block. -/
abbrev image (n : Fin 128) : Fin 32 → Fin 32 → EReal := fun y i => x (ix3 n y i)

/-- Row `y` of image `n` in the block's array. -/
abbrev rowOf (n : Fin 128) (y : Fin 32) : Fin 4096 := ⟨32 * n.val + y.val, by omega⟩

/-- Column `c` of map `o` in a row. -/
abbrev lane1 (c : Fin 32) (o : Fin 8) : Fin 256 := ⟨8 * c.val + o.val, by omega⟩

/-- Two reads at equal places. -/
theorem read3 {A B C : ℕ} {α : Type} (v : (⟨3, ![A, B, C]⟩ : Shape).Idx → α) {a a' b b' c c' : ℕ} {ha hb hc ha' hb' hc'}
    (ea : a = a') (eb : b = b') (ec : c = c') :
    v (ix3 (⟨a, ha⟩ : Fin A) (⟨b, hb⟩ : Fin B) (⟨c, hc⟩ : Fin C)) = v (ix3 (⟨a', ha'⟩ : Fin A) ⟨b', hb'⟩ ⟨c', hc'⟩) := by
  subst ea; subst eb; subst ec; rfl

/-- What a row of the block holds beside its neighbours: at `k = 32 dy + i` the image's row `y + dy - 1`, column `i`. -/
def shifted (r : Fin 4096) (k : Fin 96) : EReal :=
  if h : 1 ≤ r.val % 32 + k.val / 32 ∧ r.val % 32 + k.val / 32 ≤ 32 then
    x (ix3 ⟨r.val / 32, by omega⟩ ⟨r.val % 32 + k.val / 32 - 1, by omega⟩ ⟨k.val % 32, Nat.mod_lt _ (by decide)⟩)
  else 0

set_option maxHeartbeats 4000000 in
/-- The product with the band matrix. -/
theorem product1 (w : Vec Ideal S96x256 .bf16) (r : Fin 4096) (l : Fin 256) :
    (k0_pay3 (F := Ideal) x w (ix2 r l) : EReal) = ∑ k : Fin 96, shifted x r k * w (ix2 k l) := by
  pointwise [k0_pay3]
  refine Finset.sum_congr rfl fun k _ => congrArg (· * _) ?_
  rw [rowNumber]
  simp (disch := omega) only [WordCmp.cmpi_ne_ofNat, Scalar.select_decide]
  unfold shifted
  have hk := k.isLt
  have hr := r.isLt
  repeat' split
  all_goals first | (exfalso; omega) | (exact read3 x (by omega) (by omega) (by omega)) | exact Eq.refl (0 : EReal)

/-- The first convolution of a block. -/
theorem conv1_at (w : Vec Ideal S96x256 .bf16) (T : Fin 8 → Fin 3 → Fin 3 → EReal)
    (hw : ∀ (r : Fin 96) (l : Fin 256), w (ix2 r l) =
      if h : l.val / 8 ≤ r.val % 32 + 1 ∧ r.val % 32 + 1 - l.val / 8 < 3 then
        T ⟨l.val % 8, Nat.mod_lt _ (by decide)⟩ ⟨r.val / 32, by omega⟩ ⟨r.val % 32 + 1 - l.val / 8, h.2⟩
      else (0 : EReal))
    (n : Fin 128) (y c : Fin 32) (o : Fin 8) :
    (k0_pay3 (F := Ideal) x w (ix2 (rowOf n y) (lane1 c o)) : EReal) = Net.conv1 T (image x n) o y c := by
  rw [product1, Sums.split (A := 3) (B := 32) rfl]
  unfold Net.conv1
  refine Finset.sum_congr rfl fun dy _ => ?_
  let H : Fin 32 → EReal := fun i =>
    if h : 1 ≤ y.val + dy.val ∧ y.val + dy.val ≤ 32 then x (ix3 n ⟨y.val + dy.val - 1, by omega⟩ i) else 0
  trans ∑ i : Fin 32, if h : c.val ≤ i.val + 1 ∧ i.val + 1 - c.val < 3 then H i * T o dy ⟨i.val + 1 - c.val, h.2⟩ else 0
  · refine Finset.sum_congr rfl fun i _ => ?_
    have hs : shifted x (rowOf n y) ⟨32 * dy.val + i.val, by omega⟩ = H i := by
      unfold shifted
      show _ = dite _ _ _
      have e1 : (rowOf n y).val % 32 = y.val := by show (32 * n.val + y.val) % 32 = y.val; omega
      have e2 : (rowOf n y).val / 32 = n.val := by show (32 * n.val + y.val) / 32 = n.val; omega
      have e3 : (32 * dy.val + i.val) / 32 = dy.val := by omega
      have e4 : (32 * dy.val + i.val) % 32 = i.val := by omega
      simp only [e1, e2, e3, e4]
    have e1 : (32 * dy.val + i.val) / 32 = dy.val := by omega
    have e2 : (32 * dy.val + i.val) % 32 = i.val := by omega
    have e3 : (lane1 c o).val / 8 = c.val := by show (8 * c.val + o.val) / 8 = c.val; omega
    have e4 : (lane1 c o).val % 8 = o.val := by show (8 * c.val + o.val) % 8 = o.val; omega
    rw [hs, hw]
    simp only [e1, e2, e3, e4]
    rw [mul_dite, mul_zero]
  · rw [Sums.band c.val fun i dx => H i * T o dy dx]
    refine Finset.sum_congr rfl fun dx _ => ?_
    unfold Net.padded
    have hy := y.isLt
    by_cases h1 : 1 ≤ y.val + dy.val ∧ y.val + dy.val ≤ 32
    · by_cases h2 : 1 ≤ c.val + dx.val ∧ c.val + dx.val ≤ 32
      · rw [dif_pos h2, dif_pos ⟨h1, h2⟩]
        show dite _ _ _ * _ = _
        rw [dif_pos h1]
      · rw [dif_neg h2, dif_neg (fun h => h2 h.2), zero_mul]
    · have h3 : ¬((1 ≤ y.val + dy.val ∧ y.val + dy.val ≤ 32) ∧ 1 ≤ c.val + dx.val ∧ c.val + dx.val ≤ 32) := fun h => h1 h.1
      rw [dif_neg h3, zero_mul]
      split_ifs
      · show dite _ _ _ * _ = _
        rw [dif_neg h1, zero_mul]
      · rfl

end Cert.Block
-- ==== Proof.Block2.lean ====
/- One block, continued: the pooling by two shifted maxima, and the second convolution as three products with band
   matrices. Pooled row `y` of image `n` stays at row `32 n + 2 y`, pooled column `c` of map `i` at lane `16 c + i`. -/
module

public import proofs.«01_k».proof.Proof.Block1

@[expose] public section

set_option maxRecDepth 400000

noncomputable section

namespace Cert.Block

open Cert.KernelIdeal Cert.KernelIdeal.Gen
open Idealize.ShloMosaic Idealize.ShloMosaic.TcCoe
open scoped BigOperators

/-- Two reads at equal places. -/
theorem read2 {A B : ℕ} {α : Type} (v : (⟨2, ![A, B]⟩ : Shape).Idx → α) {a a' b b' : ℕ} {ha hb ha' hb'}
    (ea : a = a') (eb : b = b') :
    v (ix2 (⟨a, ha⟩ : Fin A) (⟨b, hb⟩ : Fin B)) = v (ix2 (⟨a', ha'⟩ : Fin A) ⟨b', hb'⟩) := by
  subst ea; subst eb; rfl

/-- Pooled row `y` of image `n`. -/
abbrev rowEven (n : Fin 128) (y : Fin 16) : Fin 4096 := ⟨32 * n.val + 2 * y.val, by omega⟩

/-- Pooled column `c` of map `i`; the second convolution's map `i` of 16 at column `c`. -/
abbrev lane2 (c i : Fin 16) : Fin 256 := ⟨16 * c.val + i.val, by omega⟩

variable (z : Vec Ideal S4096x256 .f32) (b : Vec Ideal S1x256 .f32)

set_option maxHeartbeats 4000000 in
/-- The pooling's maxima at an index. -/
theorem maxima (r : Fin 4096) (l : Fin 256) (hr : r.val < 4095) (hl : l.val < 248) :
    (k0_pay4 (F := Ideal) z b (ix2 r l) : EReal) =
      max (max (max (z (ix2 r l)) (z (ix2 ⟨r.val + 1, by omega⟩ l)))
        (max (z (ix2 r ⟨l.val + 8, by omega⟩)) (z (ix2 ⟨r.val + 1, by omega⟩ ⟨l.val + 8, by omega⟩)))
        + b (ix2 0 l)) 0 := by
  pointwise [k0_pay4]
  rw [dif_pos hl, dif_pos hr, dif_pos hr]
  rw [read2 z (a := 1 + r.val) (a' := r.val + 1) (b := l.val) (b' := l.val) (by omega) rfl,
    read2 z (a := r.val) (a' := r.val) (b := 8 + l.val) (b' := l.val + 8) rfl (by omega),
    read2 z (a := 1 + r.val) (a' := r.val + 1) (b := 8 + l.val) (b' := l.val + 8) (by omega) (by omega)]

/-- Bias and rectifier pass through the maximum of four. -/
theorem max_layer (a b c d k : EReal) :
    max (max (max a b) (max c d) + k) 0 =
      max (max (max (a + k) 0) (max (c + k) 0)) (max (max (b + k) 0) (max (d + k) 0)) := by
  rw [max_max_max_comm a b c d, ← max_add_add_right, ← max_add_add_right, ← max_add_add_right,
    sup_sup_distrib_right (a + k) (c + k) 0 |>.symm, sup_sup_distrib_right (b + k) (d + k) 0 |>.symm]
  exact sup_sup_distrib_right _ _ _

/-- The pooled first layer, from the first convolution. -/
theorem pooled_at (Z : Fin 128 → Fin 8 → Fin 32 → Fin 32 → EReal) (B : Fin 8 → EReal)
    (hz : ∀ n y c o, (z (ix2 (rowOf n y) (lane1 c o)) : EReal) = Z n o y c)
    (hb : ∀ l : Fin 256, (b (ix2 0 l) : EReal) = B ⟨l.val % 8, Nat.mod_lt _ (by decide)⟩)
    (n : Fin 128) (y c : Fin 16) (i : Fin 8) :
    (k0_pay4 (F := Ideal) z b (ix2 (rowEven n y) (lane2 c ⟨i.val, by omega⟩)) : EReal) =
      Net.pooled (fun y x => max (Z n i y x + B i) 0) y c := by
  have hn := n.isLt; have hy := y.isLt; have hc := c.isLt; have hi := i.isLt
  rw [maxima z b _ _ (by show 32 * n.val + 2 * y.val < 4095; omega) (by show 16 * c.val + i.val < 248; omega)]
  have a1 : ∀ (u v : Fin 2), (z (ix2 (⟨32 * n.val + 2 * y.val + u.val, by omega⟩ : Fin 4096)
      (⟨16 * c.val + i.val + 8 * v.val, by omega⟩ : Fin 256)) : EReal) =
        Z n i ⟨2 * y.val + u.val, by omega⟩ ⟨2 * c.val + v.val, by omega⟩ := by
    intro u v
    rw [← hz]
    exact read2 z (by show _ = 32 * n.val + (2 * y.val + u.val); omega) (by show _ = 8 * (2 * c.val + v.val) + i.val; omega)
  have e00 := a1 0 0
  have e01 := a1 0 1
  have e10 := a1 1 0
  have e11 := a1 1 1
  have eb : (b (ix2 0 (lane2 c ⟨i.val, by omega⟩)) : EReal) = B i := by
    rw [hb]
    exact congrArg B (Fin.ext (by show (16 * c.val + i.val) % 8 = i.val; omega))
  rw [eb]
  unfold Net.pooled
  rw [show (z (ix2 (rowEven n y) (lane2 c ⟨i.val, by omega⟩)) : EReal) = _ from e00,
    show (z (ix2 (⟨(rowEven n y).val + 1, by show 32 * n.val + 2 * y.val + 1 < 4096; omega⟩ : Fin 4096) (lane2 c ⟨i.val, by omega⟩)) : EReal) = _ from e10,
    show (z (ix2 (rowEven n y) (⟨(lane2 c ⟨i.val, by omega⟩).val + 8, by show 16 * c.val + i.val + 8 < 256; omega⟩ : Fin 256)) : EReal) = _ from e01,
    show (z (ix2 (⟨(rowEven n y).val + 1, by show 32 * n.val + 2 * y.val + 1 < 4096; omega⟩ : Fin 4096) (⟨(lane2 c ⟨i.val, by omega⟩).val + 8, by show 16 * c.val + i.val + 8 < 256; omega⟩ : Fin 256)) : EReal) = _ from e11]
  exact max_layer _ _ _ _ _

/-- What row `dy` of the second convolution's window is multiplied with: pooled row `y + dy - 1`, where there is one. -/
def window (p : Fin 4096 → Fin 256 → EReal) (n : Fin 128) (y : Fin 16) (dy : Fin 3) (k : Fin 256) : EReal :=
  if h : 1 ≤ y.val + dy.val ∧ y.val + dy.val ≤ 16 then p (rowEven n ⟨y.val + dy.val - 1, by omega⟩) k else 0

set_option maxHeartbeats 4000000 in
/-- The row below, masked at the image's edge. -/
theorem below_at (n : Fin 128) (y : Fin 16) (k : Fin 256) :
    (k0_pay5 (F := Ideal) k0_pay2 z b (ix2 (rowEven n y) k) : EReal) =
      window (fun r l => k0_pay4 (F := Ideal) z b (ix2 r l)) n y 2 k := by
  generalize hr : rowEven n y = r
  have hv : r.val = 32 * n.val + 2 * y.val := by rw [← hr]
  have hn := n.isLt
  have hy := y.isLt
  pointwise [k0_pay5]
  rw [rowNumber]
  simp (disch := omega) only [WordCmp.cmpi_slt_ofNat, Scalar.select_decide]
  unfold window
  have h2 : (2 : Fin 3).val = 2 := rfl
  by_cases h : r.val % 32 < 30
  · rw [if_pos h, dif_pos (by omega), dif_pos (by omega)]
    exact read2 _ (by show 2 + r.val = 32 * n.val + 2 * (y.val + 2 - 1); omega) rfl
  · rw [if_neg h, dif_neg (by omega)]

set_option maxHeartbeats 4000000 in
/-- The products with the row above, masked at the image's edge, and with the row itself. -/
theorem above_at (u v : Vec Ideal S1x256x256 .bf16) (n : Fin 128) (y : Fin 16) (l : Fin 256) :
    (k0_pay6 (F := Ideal) k0_pay2 z b u v (ix2 (rowEven n y) l) : EReal) =
      (∑ k : Fin 256, window (fun r l => k0_pay4 (F := Ideal) z b (ix2 r l)) n y 0 k * u (ix3 0 k l)) +
      ∑ k : Fin 256, window (fun r l => k0_pay4 (F := Ideal) z b (ix2 r l)) n y 1 k * v (ix3 0 k l) := by
  generalize hr : rowEven n y = r
  have hv : r.val = 32 * n.val + 2 * y.val := by rw [← hr]
  have hn := n.isLt
  have hy := y.isLt
  pointwise [k0_pay6]
  rw [rowNumber]
  simp (disch := omega) only [WordCmp.cmpi_sge_ofNat, Scalar.select_decide]
  have h0 : (0 : Fin 3).val = 0 := rfl
  have h1 : (1 : Fin 3).val = 1 := rfl
  refine congrArg₂ (· + ·) (Finset.sum_congr rfl fun k _ => ?_) (Finset.sum_congr rfl fun k _ => ?_)
  · unfold window
    by_cases h : 2 ≤ r.val % 32
    · rw [if_pos h, dif_neg (by omega), dif_pos (by omega)]
      exact congrArg (· * _) (read2 _ (by show r.val - 2 = 32 * n.val + 2 * (y.val + 0 - 1); omega) rfl)
    · rw [if_neg h, dif_neg (by omega), zero_mul]
  · unfold window
    rw [dif_pos (by omega)]
    exact congrArg (· * _) (read2 (fun i => (k0_pay4 (F := Ideal) z b i : EReal))
      (show r.val = 32 * n.val + 2 * (y.val + 1 - 1) by omega) (rfl : k.val = k.val))

/-- One row of the window, times its band matrix. -/
theorem window_sum (p : Fin 4096 → Fin 256 → EReal) (W : Fin 256 → Fin 256 → EReal) (n : Fin 128) (dy : Fin 3)
    (P : Fin 8 → Fin 16 → Fin 16 → EReal) (K : Fin 16 → Fin 8 → Fin 3 → EReal)
    (hp : ∀ (y c : Fin 16) (i : Fin 8), p (rowEven n y) (lane2 c ⟨i.val, by omega⟩) = P i y c)
    (hW : ∀ k l : Fin 256, W k l = if h : l.val / 16 ≤ k.val / 16 + 1 ∧ k.val / 16 + 1 - l.val / 16 < 3 then
      (if hi : k.val % 16 < 8 then K ⟨l.val % 16, Nat.mod_lt _ (by decide)⟩ ⟨k.val % 16, hi⟩ ⟨k.val / 16 + 1 - l.val / 16, h.2⟩
        else 0) else 0)
    (y c q : Fin 16) :
    (∑ k : Fin 256, window p n y dy k * W k (lane2 c q)) =
      ∑ dx : Fin 3, ∑ i : Fin 8, Net.padded (P i) (y.val + dy.val) (c.val + dx.val) * K q i dx := by
  rw [Sums.split (A := 16) (B := 16) rfl]
  by_cases h1 : 1 ≤ y.val + dy.val ∧ y.val + dy.val ≤ 16
  · let H : Fin 16 → Fin 3 → EReal := fun d dx => ∑ i : Fin 8, P i ⟨y.val + dy.val - 1, by omega⟩ d * K q i dx
    trans ∑ d : Fin 16, if h : c.val ≤ d.val + 1 ∧ d.val + 1 - c.val < 3 then H d ⟨d.val + 1 - c.val, h.2⟩ else 0
    · refine Finset.sum_congr rfl fun d _ => ?_
      have e1 : ∀ j : Fin 16, (16 * d.val + j.val) / 16 = d.val := fun j => by omega
      have e2 : ∀ j : Fin 16, (16 * d.val + j.val) % 16 = j.val := fun j => by omega
      have e3 : (lane2 c q).val / 16 = c.val := by show (16 * c.val + q.val) / 16 = c.val; omega
      have e4 : (lane2 c q).val % 16 = q.val := by show (16 * c.val + q.val) % 16 = q.val; omega
      simp only [hW, e1, e2, e3, e4]
      by_cases h : c.val ≤ d.val + 1 ∧ d.val + 1 - c.val < 3
      · simp only [dif_pos h]
        rw [Sums.half]
        · refine Finset.sum_congr rfl fun i _ => ?_
          rw [dif_pos i.isLt]
          refine congrArg (· * _) ?_
          unfold window
          rw [dif_pos h1]
          exact hp _ _ _
        · intro j hj
          rw [dif_neg (by omega), mul_zero]
      · simp only [dif_neg h, mul_zero, Finset.sum_const_zero]
    · rw [Sums.band c.val H]
      refine Finset.sum_congr rfl fun dx _ => ?_
      by_cases h2 : 1 ≤ c.val + dx.val ∧ c.val + dx.val ≤ 16
      · rw [dif_pos h2]
        refine Finset.sum_congr rfl fun i _ => ?_
        unfold Net.padded
        rw [dif_pos ⟨h1, h2⟩]
      · rw [dif_neg h2]
        symm
        refine Finset.sum_eq_zero fun i _ => ?_
        unfold Net.padded
        rw [dif_neg (fun h => h2 h.2), zero_mul]
  · rw [Finset.sum_eq_zero, Finset.sum_eq_zero]
    · intro dx _
      refine Finset.sum_eq_zero fun i _ => ?_
      unfold Net.padded
      rw [dif_neg (fun h => h1 h.1), zero_mul]
    · intro d _
      refine Finset.sum_eq_zero fun j _ => ?_
      unfold window
      rw [dif_neg h1, zero_mul]

end Cert.Block
-- ==== Proof.Numbers.lean ====
/- The constants of both programs as extended reals, and division by them. -/
module

public import Idealize.ShloMosaic.Lib.IdealHost

@[expose] public section

noncomputable section

open scoped BigOperators

namespace Cert.Numbers
open Idealize.ShloMosaic

/-- The word of 64. -/
theorem word64 : Ideal.ofBits .f32 0x42800000#32 = (64 : EReal) := by
  rw [show (64 : EReal) = (((64 : ℝ)) : EReal) from by norm_cast]
  simp [Ideal.ofBits, Ideal.ieee, -EReal.coe_mul]
  norm_num

/-- The word of 256. -/
theorem word256 : Ideal.ofBits .f32 0x43800000#32 = (256 : EReal) := by
  rw [show (256 : EReal) = (((256 : ℝ)) : EReal) from by norm_cast]
  simp [Ideal.ofBits, Ideal.ieee, -EReal.coe_mul]
  norm_num

/-- Division by 64. -/
theorem div64 (x : EReal) : Ideal.div x 64 = x / 64 := by
  rw [Ideal.div, if_neg (by norm_num), div_eq_mul_inv]

/-- Division by 256. -/
theorem div256 (x : EReal) : Ideal.div x 256 = x / 256 := by
  rw [Ideal.div, if_neg (by norm_num), div_eq_mul_inv]

/-- A sixty-fourth is not negative. -/
theorem nonneg64 : (0:EReal) ≤ (64:EReal)⁻¹ := by
  exact EReal.inv_nonneg_of_nonneg (by norm_num)

/-- A sixty-fourth is finite. -/
theorem neTop64 :  (64:EReal)⁻¹ ≠ ⊤ := by
  rw [show (64 : EReal) = (((64 : ℝ)) : EReal) from by norm_cast, ← EReal.coe_inv]
  exact EReal.coe_ne_top _

/-- The average of 64 equal terms. -/
theorem copies (x : EReal) : (∑ _k : Fin 64, x) / 64 = x := by
  rw [Finset.sum_const, Finset.card_univ, Fintype.card_fin, EReal.nsmul_eq_mul]
  rw [div_eq_mul_inv, mul_comm, ← mul_assoc]
  have : (64:EReal)⁻¹ * ((64:ℕ):EReal) = 1 := by
    rw [show (64 : EReal) = (((64 : ℝ)) : EReal) from by norm_cast, ← EReal.coe_inv]
    rw [show (((64 : ℕ)):EReal) = (((64 : ℝ)) : EReal) from by norm_cast, ← EReal.coe_mul]
    norm_num
  rw [this, one_mul]

end Cert.Numbers

end
-- ==== Proof.Block3.lean ====
/- One block, concluded: the features' average folded into the dense layer, the node of every image, and the average
   over the two graphs of the block. -/
module

public import proofs.«01_k».proof.Proof.Block2
public import proofs.«01_k».proof.Proof.Numbers

@[expose] public section

set_option maxRecDepth 400000

noncomputable section

namespace Cert.Block

open Cert.KernelIdeal Cert.KernelIdeal.Gen
open Idealize.ShloMosaic Idealize.ShloMosaic.TcCoe
open scoped BigOperators

/-- The second layer is not negative. -/
theorem maps_nonneg (w : Net.ImageWeights) (X : Fin 32 → Fin 32 → EReal) (q y x : Fin 16) : 0 ≤ Net.maps w X q y x :=
  le_max_right _ _

/-- The average over an image's places, taken before or after the dense layer. -/
theorem folded (w : Net.ImageWeights) (X : Fin 32 → Fin 32 → EReal) (f : Fin 16) :
    (∑ y : Fin 16, ∑ x : Fin 16, ∑ q : Fin 16, Net.maps w X q y x * (w.fc q f / 256)) =
      ∑ q : Fin 16, Net.feature w X q * w.fc q f := by
  have e : ∀ y : Fin 16, (∑ x : Fin 16, ∑ q : Fin 16, Net.maps w X q y x * (w.fc q f / 256)) =
      ∑ q : Fin 16, ∑ x : Fin 16, Net.maps w X q y x * (w.fc q f / 256) := fun y => Finset.sum_comm
  rw [Finset.sum_congr rfl fun y _ => e y, Finset.sum_comm]
  refine Finset.sum_congr rfl fun q _ => ?_
  unfold Net.feature
  have h : ∀ (y : Fin 16), (∑ x : Fin 16, Net.maps w X q y x * (w.fc q f / 256)) =
      (∑ x : Fin 16, Net.maps w X q y x) * (w.fc q f / 256) := fun y =>
    (Sums.mul_right _ _ (fun x _ => maps_nonneg w X q y x) _).symm
  rw [Finset.sum_congr rfl fun y _ => h y,
    ← Sums.mul_right _ _ (fun y _ => Finset.sum_nonneg fun x _ => maps_nonneg w X q y x),
    div_eq_mul_inv, div_eq_mul_inv, mul_comm (w.fc q f), mul_assoc]

/-- The parity of a row number. -/
theorem parity (a : ℕ) (ha : a < 32) (x : BitVec 32) (c : BitVec 1) :
    IntOp.cmpi .eq (Scalar.select
      (IntOp.andi (IntOp.xori (IntOp.cmpi .slt (IntOp.remsi .vector (BitVec.ofNat 32 a) 2#32) 0#32) 0#1) c)
      x (IntOp.remsi .vector (BitVec.ofNat 32 a) 2#32)) 0#32 = BitVec.ofBool (decide (a % 2 = 0)) := by
  rw [show (2#32 : BitVec 32) = BitVec.ofNat 32 2 from rfl, mod_word a 2 (by omega) (by decide) (by decide),
    WordCmp.cmpi_eq_ofNat (w := 32) (b := 0) (by omega) (by omega)]

variable (p : FVec Ideal S4096x256 .bf16) (e : FVec Ideal S4096x256 .f32) (u : FVec Ideal S256x256 .bf16)
  (b2 : Vec Ideal S1x256 .f32) (wf : Vec Ideal S256x16 .bf16) (bf : Vec Ideal S1x16 .f32)

set_option maxHeartbeats 4000000 in
/-- An image's dense layer: over its even rows, the rectified second convolution times the spread weights. -/
theorem dense_at (n : Fin 128) (f : Fin 16) :
    (k0_pay8 (F := Ideal) k0_pay2 p e u b2 wf bf (ix2 n f) : EReal) =
      (∑ y : Fin 16, ∑ l : Fin 256,
        max (e (ix2 (rowEven n y) l) + (∑ k : Fin 256, p (ix2 (rowEven n y) k) * u (ix2 k l)) + b2 (ix2 0 l)) 0 * wf (ix2 l f))
      + bf (ix2 0 f) := by
  pointwise [k0_pay8]
  refine congrArg (· + _) ?_
  have hn := n.isLt
  rw [Sums.evens]
  · refine Finset.sum_congr rfl fun y _ => Finset.sum_congr rfl fun l _ => ?_
    have hy := y.isLt
    have ev : (⟨n.val * 32 + 2 * y.val, by omega⟩ : Fin 4096) = rowEven n y := Fin.ext (by
      show n.val * 32 + 2 * y.val = 32 * n.val + 2 * y.val; omega)
    rw [rowNumber]
    refine Eq.trans (congrArg (fun c => Scalar.select c _ _) (parity _ (Nat.mod_lt _ (by decide)) _ _)) ?_
    rw [Scalar.select_decide, if_pos (by show (n.val * 32 + 2 * y.val) % 32 % 2 = 0; omega), ev]
  · intro y hy
    refine Finset.sum_eq_zero fun l _ => ?_
    rw [rowNumber]
    refine Eq.trans (congrArg (fun c => Scalar.select c _ _) (parity _ (Nat.mod_lt _ (by decide)) _ _)) ?_
    rw [Scalar.select_decide, if_neg (by show ¬(n.val * 32 + y.val) % 32 % 2 = 0; omega)]

end Cert.Block
-- ==== Proof.Block4.lean ====
/- What one block computes: from 128 images, the averages of its two graphs. -/
module

public import proofs.«01_k».proof.Proof.Block3

@[expose] public section

set_option maxRecDepth 400000

noncomputable section

namespace Cert.Block

open Cert.KernelIdeal Cert.KernelIdeal.Gen
open Idealize.ShloMosaic Idealize.ShloMosaic.TcCoe
open scoped BigOperators

/-- What the block's operands hold, beside the images: the weights, laid out as the block wants them. -/
structure Operands (w : Net.ImageWeights) (x1 : Vec Ideal S96x256 .bf16) (x2 : Vec Ideal S3x256x256 .bf16)
    (x3 : Vec Ideal S256x16 .bf16) (x4 x5 : Vec Ideal S1x256 .f32) (x6 : Vec Ideal S1x16 .f32) : Prop where
  /-- the first convolution's band matrix -/
  band1 : ∀ (r : Fin 96) (l : Fin 256), x1 (ix2 r l) =
    if h : l.val / 8 ≤ r.val % 32 + 1 ∧ r.val % 32 + 1 - l.val / 8 < 3 then
      w.k1 ⟨l.val % 8, Nat.mod_lt _ (by decide)⟩ ⟨r.val / 32, by omega⟩ ⟨r.val % 32 + 1 - l.val / 8, h.2⟩
    else (0 : EReal)
  /-- the second convolution's three band matrices -/
  band2 : ∀ (d : Fin 3) (k l : Fin 256), x2 (ix3 d k l) =
    if h : l.val / 16 ≤ k.val / 16 + 1 ∧ k.val / 16 + 1 - l.val / 16 < 3 then
      (if hi : k.val % 16 < 8 then
        w.k2 ⟨l.val % 16, Nat.mod_lt _ (by decide)⟩ ⟨k.val % 16, hi⟩ d ⟨k.val / 16 + 1 - l.val / 16, h.2⟩ else (0 : EReal))
    else (0 : EReal)
  /-- the dense layer's weights, divided by the number of places -/
  dense : ∀ (l : Fin 256) (f : Fin 16), x3 (ix2 l f) = w.fc ⟨l.val % 16, Nat.mod_lt _ (by decide)⟩ f / (256 : EReal)
  /-- the first bias, spread over the lanes -/
  bias1 : ∀ l : Fin 256, x4 (ix2 0 l) = w.b1 ⟨l.val % 8, Nat.mod_lt _ (by decide)⟩
  /-- the second bias, spread over the lanes -/
  bias2 : ∀ l : Fin 256, x5 (ix2 0 l) = w.b2 ⟨l.val % 16, Nat.mod_lt _ (by decide)⟩
  /-- the dense layer's bias -/
  biasf : ∀ f : Fin 16, x6 (ix2 0 f) = w.bf f

variable {w : Net.ImageWeights} {x1 : Vec Ideal S96x256 .bf16} {x2 : Vec Ideal S3x256x256 .bf16}
  {x3 : Vec Ideal S256x16 .bf16} {x4 x5 : Vec Ideal S1x256 .f32} {x6 : Vec Ideal S1x16 .f32}
  (x0 : Vec Ideal S128x32x32 .f32) (h : Operands w x1 x2 x3 x4 x5 x6)

include h in
/-- The pooled first layer of the block. -/
theorem layer_at (n : Fin 128) (y c : Fin 16) (i : Fin 8) :
    (k0_pay4 (F := Ideal) (k0_pay3 x0 x1) x4 (ix2 (rowEven n y) (lane2 c ⟨i.val, by omega⟩)) : EReal) =
      Net.pooled (Net.layer1 w.k1 w.b1 (image x0 n) i) y c :=
  pooled_at _ _ (fun n o y c => Net.conv1 w.k1 (image x0 n) o y c) w.b1
    (fun n y c o => conv1_at x0 x1 w.k1 h.band1 n y c o) h.bias1 n y c i

/-- The block's pooled rows. -/
abbrev pooledRows (x0 : Vec Ideal S128x32x32 .f32) (x1 : Vec Ideal S96x256 .bf16) (x4 : Vec Ideal S1x256 .f32)
    (r : Fin 4096) (l : Fin 256) : EReal :=
  k0_pay4 (F := Ideal) (k0_pay3 x0 x1) x4 (ix2 r l)

include h in
/-- One row of the second convolution's window, of the block. -/
theorem windowed (n : Fin 128) (d : Fin 3) (y c q : Fin 16) :
    (∑ k : Fin 256, window (pooledRows x0 x1 x4) n y d k * x2 (ix3 d k (lane2 c q))) =
      ∑ dx : Fin 3, ∑ i : Fin 8, Net.padded (Net.pooled (Net.layer1 w.k1 w.b1 (image x0 n) i)) (y.val + d.val) (c.val + dx.val) *
        w.k2 q i d dx :=
  window_sum (pooledRows x0 x1 x4) (fun k l => x2 (ix3 d k l)) n d
    (fun i => Net.pooled (Net.layer1 w.k1 w.b1 (image x0 n) i)) (fun o i dx => w.k2 o i d dx)
    (fun y c i => layer_at x0 h n y c i) (fun k l => h.band2 d k l) y c q

/-- The matrix of one row of the window, as the block reads it. -/
theorem slab (u : Vec Ideal S1x256x256 .bf16) (k l : Fin 256) :
    (k0_pay7 (F := Ideal) u (ix2 k l) : EReal) = u (ix3 0 k l) := by
  pointwise [k0_pay7]

include h in
/-- The node of image `n`, before its rectifier. -/
theorem node_at (u0 u1 u2 : Vec Ideal S1x256x256 .bf16)
    (h0 : ∀ k l : Fin 256, (u0 (ix3 0 k l) : EReal) = x2 (ix3 0 k l))
    (h1 : ∀ k l : Fin 256, (u1 (ix3 0 k l) : EReal) = x2 (ix3 1 k l))
    (h2 : ∀ k l : Fin 256, (u2 (ix3 0 k l) : EReal) = x2 (ix3 2 k l)) (n : Fin 128) (f : Fin 16) :
    (k0_pay8 (F := Ideal) k0_pay2 (k0_pay5 k0_pay2 (k0_pay3 x0 x1) x4)
        (k0_pay6 k0_pay2 (k0_pay3 x0 x1) x4 u0 u1) (k0_pay7 u2) x5 x3 x6 (ix2 n f) : EReal) =
      (∑ q : Fin 16, Net.feature w (image x0 n) q * w.fc q f) + w.bf f := by
  rw [dense_at, h.biasf, ← folded]
  refine congrArg (· + _) (Finset.sum_congr rfl fun y _ => ?_)
  rw [Sums.split (A := 16) (B := 16) rfl]
  refine Finset.sum_congr rfl fun c _ => Finset.sum_congr rfl fun q _ => ?_
  have e3 : (16 * c.val + q.val) % 16 = q.val := by omega
  have ew : (x3 (ix2 (lane2 c q) f) : EReal) = w.fc q f / 256 := by
    rw [h.dense]
    exact congrArg (fun j => w.fc j f / 256) (Fin.ext e3)
  have eb : (x5 (ix2 0 (lane2 c q)) : EReal) = w.b2 q := by
    rw [h.bias2]
    exact congrArg w.b2 (Fin.ext e3)
  refine congrArg₂ (· * ·) ?_ ew
  refine congrArg (max · 0) (congrArg₂ (· + ·) ?_ eb)
  show (k0_pay6 (F := Ideal) k0_pay2 (k0_pay3 x0 x1) x4 u0 u1 (ix2 (rowEven n y) (lane2 c q)) : EReal) +
    (∑ k : Fin 256, (k0_pay5 (F := Ideal) k0_pay2 (k0_pay3 x0 x1) x4 (ix2 (rowEven n y) k) : EReal) *
      k0_pay7 (F := Ideal) u2 (ix2 k (lane2 c q))) = _
  rw [above_at]
  simp only [below_at, slab, h0, h1, h2]
  rw [windowed x0 h n 0 y c q, windowed x0 h n 1 y c q, windowed x0 h n 2 y c q]
  unfold Net.conv2
  rw [Fin.sum_univ_three (fun dy : Fin 3 => ∑ dx : Fin 3, ∑ i : Fin 8, Net.padded _ (y.val + dy.val) (c.val + dx.val) * w.k2 q i dy dx)]

set_option maxHeartbeats 4000000 in
/-- The rectified nodes' average. -/
theorem mean_at (u : FVec Ideal S128x16 .f32) (g : Fin 2) (f : Fin 16) :
    (k0_pay1 (F := Ideal) u k0_pay9 (ix3 0 g f) : EReal) =
      (∑ r : Fin 64, max (u (ix2 ⟨64 * g.val + r.val, by omega⟩ f)) 0) / 64 := by
  pointwise [k0_pay1, k0_pay9]
  rw [show (1115684864#32 : BitVec 32) = 0x42800000#32 from rfl, Numbers.word64, Numbers.div64]
  refine congrArg (· / 64) (Finset.sum_congr rfl fun r _ => congrArg (max · 0) ?_)
  exact read2 (fun i => (u i : EReal)) (show g.val * 64 + r.val = 64 * g.val + r.val by omega) (rfl : f.val = f.val)

include h in
/-- The averages of the block's two graphs. -/
theorem block_at (g : Fin 2) (f : Fin 16) :
    (out0_7 (F := Ideal) x0 x1 x2 x3 x4 x5 x6 (ix3 0 g f) : EReal) =
      Net.average w (fun r => image x0 ⟨64 * g.val + r.val, by omega⟩) f := by
  have hz : (![0, 0, 0] : Fin 3 → Nat) = fun _ => 0 := funext fun a => by fin_cases a <;> rfl
  have hz2 : (![0, 0] : Fin 2 → Nat) = fun _ => 0 := funext fun a => by fin_cases a <;> rfl
  unfold_out out0_7
  rw [View.canon_unit_zero hz]
  rw [mean_at]
  unfold Net.average
  refine congrArg (· / 64) (Finset.sum_congr rfl fun r _ => ?_)
  unfold Net.node
  refine congrArg (max · 0) ?_
  have l0 : View.ld (Val := Elt Ideal) x0 r0_0 = x0 := View.ld_unit_zero (S := S128x32x32) hz _ _
  have l1 : View.ld (Val := Elt Ideal) x1 r0_1 = x1 := View.ld_unit_zero (S := S96x256) hz2 _ _
  have l3 : View.ld (Val := Elt Ideal) x3 r0_6 = x3 := View.ld_unit_zero (S := S256x16) hz2 _ _
  have l4 : View.ld (Val := Elt Ideal) x4 r0_2 = x4 := View.ld_unit_zero (S := S1x256) hz2 _ _
  have l5 : View.ld (Val := Elt Ideal) x5 r0_2 = x5 := View.ld_unit_zero (S := S1x256) hz2 _ _
  have l6 : View.ld (Val := Elt Ideal) x6 r0_7 = x6 := View.ld_unit_zero (S := S1x16) hz2 _ _
  rw [l0, l1, l3, l4, l5, l6]
  refine node_at x0 h _ _ _ (fun k l => ?_) (fun k l => ?_) (fun k l => ?_) _ f
  · pointwise
  · pointwise
  · pointwise

end Cert.Block
-- ==== Proof.Operands.lean ====
/- What the host hands to the image blocks, at an index: the weights in the blocks' layouts, and the images. -/
module

public import proofs.«01_k».proof.Proof.Bands1
public import proofs.«01_k».proof.Proof.Bands2
public import proofs.«01_k».proof.Proof.Block4
public import proofs.«01_k».proof.Proof.Args

@[expose] public section

set_option maxRecDepth 16384

noncomputable section

namespace Cert.Operands

open Cert.KernelIdeal Cert.KernelIdeal.Gen
open Idealize.ShloMosaic Idealize.ShloMosaic.TcCoe

variable (m : (ℓ : Loc nD τ sig) → Buf (Elt Ideal) ℓ) (ρ : Dev nD → PrngReg)

/-- The image weights of device `c`'s arguments. -/
def weights (c : Dev nD) : Net.ImageWeights :=
  Args.imageWeights (W0 m ρ c (Proc.devRef .tc main_arg2)) (W0 m ρ c (Proc.devRef .tc main_arg3))
    (W0 m ρ c (Proc.devRef .tc main_arg4)) (W0 m ρ c (Proc.devRef .tc main_arg5))
    (W0 m ρ c (Proc.devRef .tc main_arg6)) (W0 m ρ c (Proc.devRef .tc main_arg7))

set_option maxHeartbeats 1600000 in
/-- The dense layer's weights. -/
theorem dense_at (c : Dev nD) (l : Fin 256) (f : Fin 16) :
    (W1 m ρ c (Proc.devRef .tc main_v297) : Vec Ideal S256x16 .bf16) (ix2 l f) =
      (weights m ρ c).fc ⟨l.val % 16, Nat.mod_lt _ (by decide)⟩ f / (256 : EReal) := by
  after_reads_simp
  pointwise
  rw [show (1132462080#32 : BitVec 32) = 0x43800000#32 from rfl, Numbers.word256, Numbers.div256]
  rfl

set_option maxHeartbeats 1600000 in
/-- The first bias. -/
theorem bias1_at (c : Dev nD) (l : Fin 256) :
    (W1 m ρ c (Proc.devRef .tc main_v301) : Vec Ideal S1x256 .f32) (ix2 0 l) =
      (weights m ρ c).b1 ⟨l.val % 8, Nat.mod_lt _ (by decide)⟩ := by
  after_reads_simp
  pointwise
  rfl

set_option maxHeartbeats 1600000 in
/-- The second bias. -/
theorem bias2_at (c : Dev nD) (l : Fin 256) :
    (W1 m ρ c (Proc.devRef .tc main_v305) : Vec Ideal S1x256 .f32) (ix2 0 l) =
      (weights m ρ c).b2 ⟨l.val % 16, Nat.mod_lt _ (by decide)⟩ := by
  after_reads_simp
  pointwise
  rfl

set_option maxHeartbeats 1600000 in
/-- The dense layer's bias. -/
theorem biasf_at (c : Dev nD) (f : Fin 16) :
    (W1 m ρ c (Proc.devRef .tc main_v307) : Vec Ideal S1x16 .f32) (ix2 0 f) = (weights m ρ c).bf f := by
  after_reads_simp
  pointwise
  rfl

set_option maxHeartbeats 1600000 in
/-- The images. -/
theorem picture_at (c : Dev nD) (n : Fin 32768) (y x : Fin 32) :
    (W1 m ρ c (Proc.devRef .tc main_v306) : Vec Ideal S32768x32x32 .f32) (ix3 n y x) =
      Args.picture (W0 m ρ c (Proc.devRef .tc main_arg0)) n y x := by
  after_reads_simp
  pointwise
  rfl

/-- The operands of every block. -/
theorem operands (c : Dev nD) :
    Block.Operands (weights m ρ c) (W1 m ρ c (Proc.devRef .tc main_v127)) (W1 m ρ c (Proc.devRef .tc main_v291))
      (W1 m ρ c (Proc.devRef .tc main_v297)) (W1 m ρ c (Proc.devRef .tc main_v301)) (W1 m ρ c (Proc.devRef .tc main_v305))
      (W1 m ρ c (Proc.devRef .tc main_v307)) where
  band1 := Bands.bands1 m ρ c
  band2 := fun d k l => Bands.bands2 m ρ c d k l
  dense := dense_at m ρ c
  bias1 := bias1_at m ρ c
  bias2 := bias2_at m ρ c
  biasf := biasf_at m ρ c

end Cert.Operands

end
-- ==== Proof.Array0.lean ====
/- The array the image blocks leave: the averages of all graphs. -/
module

public import proofs.«01_k».proof.Proof.Operands
public import Idealize.ShloMosaic.Lib.Pipeline.ValueKit

@[expose] public section

set_option maxRecDepth 16384

noncomputable section

namespace Cert.Array0

open Cert.KernelIdeal Cert.KernelIdeal.Gen
open Idealize.ShloMosaic Idealize.ShloMosaic.TcCoe

variable (m : (ℓ : Loc nD τ sig) → Buf (Elt Ideal) ℓ) (ρ : Dev nD → PrngReg)
variable (V : (c : Dev nD) → (b : Ref sig .tc) → Buf (Elt Ideal) ((c : Thread nD τ).loc b))

theorem i0 : ∀ t : Fin cfg0.N, win0_0.index t = ![t.val, 0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![t.val, 0, 0] := (by decide +kernel : ∀ t : Fin grid0.N, _)

theorem points (t : Fin cfg0.N) : t.val < 256 := lt_of_lt_of_eq t.isLt (by decide)

/-- Block `t` of the images is the images from `128 t`. -/
theorem blk0 (c : Dev nD) (t : Fin cfg0.N) (n : Fin 128) (y x : Fin 32) :
    (iblk0 V c 0 t : Vec Ideal S128x32x32 .f32) (ix3 n y x) =
      (V c main_v306 : Vec Ideal S32768x32x32 .f32) (ix3 ⟨128 * t.val + n.val, by have := points t; omega⟩ y x) := by
  blk_simp [iblk0, i0]
  refine congrArg _ ?_
  blk_ext [i0]

/-- Operand 1 is handed over whole. -/
theorem blk1 (c : Dev nD) (t : Fin cfg0.N) : (iblk0 V c 1 t : Vec Ideal S96x256 .bf16) = V c main_v127 := by
  funext i
  blk_simp [iblk0]
  refine congrArg _ ?_
  blk_ext [i1]

/-- Operand 2 is handed over whole. -/
theorem blk2 (c : Dev nD) (t : Fin cfg0.N) : (iblk0 V c 2 t : Vec Ideal S3x256x256 .bf16) = V c main_v291 := by
  funext i
  blk_simp [iblk0]
  refine congrArg _ ?_
  blk_ext [i2]

/-- Operand 3 is handed over whole. -/
theorem blk3 (c : Dev nD) (t : Fin cfg0.N) : (iblk0 V c 3 t : Vec Ideal S256x16 .bf16) = V c main_v297 := by
  funext i
  blk_simp [iblk0]
  refine congrArg _ ?_
  blk_ext [i3]

/-- Operand 4 is handed over whole. -/
theorem blk4 (c : Dev nD) (t : Fin cfg0.N) : (iblk0 V c 4 t : Vec Ideal S1x256 .f32) = V c main_v301 := by
  funext i
  blk_simp [iblk0]
  refine congrArg _ ?_
  blk_ext [i4]

/-- Operand 5 is handed over whole. -/
theorem blk5 (c : Dev nD) (t : Fin cfg0.N) : (iblk0 V c 5 t : Vec Ideal S1x256 .f32) = V c main_v305 := by
  funext i
  blk_simp [iblk0]
  refine congrArg _ ?_
  blk_ext [i5]

/-- Operand 6 is handed over whole. -/
theorem blk6 (c : Dev nD) (t : Fin cfg0.N) : (iblk0 V c 6 t : Vec Ideal S1x16 .f32) = V c main_v307 := by
  funext i
  blk_simp [iblk0]
  refine congrArg _ ?_
  blk_ext [i6]

/-- The averages of graph `2 a + g`. -/
def average (c : Dev nD) (a : Fin 256) (g : Fin 2) (f : Fin 16) : EReal :=
  Net.average (Operands.weights m ρ c)
    (fun r => Args.picture (W0 m ρ c (Proc.devRef .tc main_arg0)) ⟨64 * (2 * a.val + g.val) + r.val, by omega⟩) f

/-- The averages of all graphs, two to a block. -/
def averages (c : Dev nD) : Vec Ideal S256x2x16 .f32 := fun i => average m ρ c (i 0) (i 1) (i 2)

set_option maxHeartbeats 1600000 in
/-- After the image blocks the array holds the averages. -/
theorem averages_eq (c : Dev nD) :
    (dat0 (V1 m ρ) c).arrAt 7 cfg0.N = averages m ρ c := by
  refine (dat0 (V1 m ρ) c).arrAt_eq_of_covers 7 _ (by decide +kernel) fun t hf y => ?_
  blk_simp
  rw [after0_7]
  obtain ⟨a, g, f, rfl⟩ : ∃ (a : Fin 1) (g : Fin 2) (f : Fin 16), y = ix3 a g f := ⟨y 0, y 1, y 2, eq_ix3 y⟩
  obtain rfl : a = 0 := Subsingleton.elim _ _
  rw [blk1, blk2, blk3, blk4, blk5, blk6]
  refine (Block.block_at _ (Operands.operands m ρ c) g f).trans ?_
  have e : (win0_7.blk t).view.emb (ix3 0 g f) = ix3 (⟨t.val, points t⟩ : Fin 256) g f := by
    blk_ext [i7]
  rw [e]
  show Net.average _ _ f = Net.average _ _ f
  refine congrArg (fun X => Net.average (Operands.weights m ρ c) X f) (funext fun r => funext fun y => funext fun x => ?_)
  refine (blk0 (V1 m ρ) c t _ y x).trans ((Operands.picture_at m ρ c _ y x).trans ?_)
  refine congrArg (fun n => Args.picture (W0 m ρ c (Proc.devRef .tc main_arg0)) n y x) (Fin.ext ?_)
  show 128 * t.val + (64 * g.val + r.val) = 64 * (2 * t.val + g.val) + r.val
  omega

end Cert.Array0

end
-- ==== Proof.HeadOperands.lean ====
/- What the host hands to the head block, at an index. -/
module

public import proofs.«01_k».proof.Proof.Head
public import proofs.«01_k».proof.Proof.Array0
public import Idealize.ShloMosaic.Lib.StableHlo.ReadAt
public import Idealize.ShloMosaic.Lib.Routing.OpsSet

@[expose] public section

set_option maxRecDepth 16384

noncomputable section

namespace Cert.HeadOperands

open Cert.KernelIdeal Cert.KernelIdeal.Gen
open Idealize.ShloMosaic Idealize.ShloMosaic.TcCoe

/-- With every index word zero, the update lands at its own place. -/
theorem lands_columns (idx : IVec S1 32) (hi : ∀ i, idx i = 0#32) (a : Fin 64) (b : Fin 2) (e : Fin 64) (q : Fin 8) :
    scatter_S64x8_S1_S64x2_01_n_1_0.resultIdx? (ix2 a b) idx = some (ix2 e q) ↔ a.val = e.val ∧ b.val = q.val := by
  rw [Routing.resultIdx?_eq_some]
  have st : ∀ p : Fin 2, scatter_S64x8_S1_S64x2_01_n_1_0.start (ix2 a b) idx p = 0 := by
    intro p
    unfold ScatterDims.start
    split
    · rw [hi]; rfl
    · rfl
  have w0 : scatter_S64x8_S1_S64x2_01_n_1_0.window (ix2 a b) 0 = a.val := rfl
  have w1 : scatter_S64x8_S1_S64x2_01_n_1_0.window (ix2 a b) 1 = b.val := rfl
  constructor
  · intro h
    have h0 := h 0
    have h1 := h 1
    rw [st, w0] at h0
    rw [st, w1] at h1
    have e0 : ((ix2 e q : S64x8.Idx) 0).val = e.val := rfl
    have e1 : ((ix2 e q : S64x8.Idx) 1).val = q.val := rfl
    omega
  · rintro ⟨h0, h1⟩ p
    rw [st]
    match p with
    | ⟨0, _⟩ => show (0 : Int) + (a.val : Int) = (e.val : Int); omega
    | ⟨1, _⟩ => show (0 : Int) + (b.val : Int) = (q.val : Int); omega

/-- With every index word zero, the update lands at its own place. -/
theorem lands_row (idx : IVec S2 32) (hi : ∀ i, idx i = 0#32) (b : Fin 2) (q : Fin 8) :
    scatter_S1x8_S2_S2_0_0_01_0.resultIdx? (ix1 b) idx = some (ix2 0 q) ↔ b.val = q.val := by
  rw [Routing.resultIdx?_eq_some]
  have st : ∀ p : Fin 2, scatter_S1x8_S2_S2_0_0_01_0.start (ix1 b) idx p = 0 := by
    intro p
    unfold ScatterDims.start
    split
    · rw [hi]; rfl
    · rfl
  have w0 : scatter_S1x8_S2_S2_0_0_01_0.window (ix1 b) 0 = 0 := rfl
  have w1 : scatter_S1x8_S2_S2_0_0_01_0.window (ix1 b) 1 = b.val := rfl
  constructor
  · intro h
    have h1 := h 1
    rw [st, w1] at h1
    have e1 : ((ix2 0 q : S1x8.Idx) 1).val = q.val := rfl
    omega
  · intro h1 p
    rw [st]
    match p with
    | ⟨0, _⟩ => rfl
    | ⟨1, _⟩ => show (0 : Int) + (b.val : Int) = (q.val : Int); omega

variable (m : (ℓ : Loc nD τ sig) → Buf (Elt Ideal) ℓ) (ρ : Dev nD → PrngReg)

/-- The weights of the graph part, read off device `c`'s arguments. -/
def weights (c : Dev nD) : Net.GraphWeights :=
  Args.graphWeights (W0 m ρ c (Proc.devRef .tc main_arg8)) (W0 m ρ c (Proc.devRef .tc main_arg9))
    (W0 m ρ c (Proc.devRef .tc main_arg10)) (W0 m ρ c (Proc.devRef .tc main_arg11))
    (W0 m ρ c (Proc.devRef .tc main_arg12)) (W0 m ρ c (Proc.devRef .tc main_arg13))
    (W0 m ρ c (Proc.devRef .tc main_arg14)) (W0 m ρ c (Proc.devRef .tc main_arg15))

/-- The averages of graph `j`. -/
def average (c : Dev nD) (j : Fin 512) : Fin 16 → EReal :=
  Net.average (Operands.weights m ρ c) fun r =>
    Args.picture (W0 m ρ c (Proc.devRef .tc main_arg0)) ⟨64 * j.val + r.val, by omega⟩

/-- The averages, one row to a graph. -/
theorem averages_at (c : Dev nD) (j : Fin 512) (f : Fin 16) :
    (W3 m ρ c (Proc.devRef .tc main_v309) : Vec Ideal S512x16 .f32) (ix2 j f) = average m ρ c j f := by
  after_reads_simp
  pointwise
  have e : W2 m ρ c (Proc.devRef .tc main_v308) = Array0.averages m ρ c :=
    (W2_arr m ρ c 7).trans (Array0.averages_eq m ρ c)
  rw [e]
  show Array0.average m ρ c ⟨j.val / 2, _⟩ ⟨j.val % 2, _⟩ f = average m ρ c j f
  unfold Array0.average average
  refine congrArg (fun X => Net.average (Operands.weights m ρ c) X f) (funext fun r => ?_)
  refine congrArg (Args.picture (W0 m ρ c (Proc.devRef .tc main_arg0))) (Fin.ext ?_)
  show 64 * (2 * (j.val / 2) + j.val % 2) + r.val = 64 * j.val + r.val
  omega

/-- The first graph layer's bias. -/
theorem bias1_at (c : Dev nD) (k : Fin 32) :
    (W3 m ρ c (Proc.devRef .tc main_v318) : Vec Ideal S1x32 .f32) (ix2 0 k) = (weights m ρ c).c1 k := by
  after_reads_simp
  pointwise
  rw [W2_args m ρ c main_arg9 (by decide)]
  rfl

/-- The second graph layer's bias. -/
theorem bias2_at (c : Dev nD) (k : Fin 64) :
    (W3 m ρ c (Proc.devRef .tc main_v319) : Vec Ideal S1x64 .f32) (ix2 0 k) = (weights m ρ c).c2 k := by
  after_reads_simp
  pointwise
  rw [W2_args m ρ c main_arg11 (by decide)]
  rfl

/-- The head's first bias. -/
theorem bias3_at (c : Dev nD) (k : Fin 64) :
    (W3 m ρ c (Proc.devRef .tc main_v320) : Vec Ideal S1x64 .f32) (ix2 0 k) = (weights m ρ c).d1 k := by
  after_reads_simp
  pointwise
  rw [W2_args m ρ c main_arg13 (by decide)]
  rfl

/-- The head's second weights, in the first two columns of eight. -/
theorem weight4_at (c : Dev nD) (f : Fin 64) (k : Fin 2) :
    (W3 m ρ c (Proc.devRef .tc main_v312) : Vec Ideal S64x8 .f32) (ix2 f ⟨k.val, by omega⟩) = (weights m ρ c).f2 f k := by
  after_reads_simp
  rw [W2_args m ρ c main_arg14 (by decide)]
  refine Routing.scatter_set_hit _ _ _ _ _ _ (fun i hi => ?_) (ix2 f k) ((lands_columns _ (fun _ => rfl) _ _ _ _).2 ⟨rfl, rfl⟩)
  obtain ⟨a, b, rfl⟩ : ∃ (a : Fin 64) (b : Fin 2), i = ix2 a b := ⟨i 0, i 1, eq_ix2 i⟩
  obtain ⟨ha, hb⟩ := (lands_columns _ (fun _ => rfl) _ _ _ _).1 hi
  obtain rfl : a = f := Fin.ext ha
  obtain rfl : b = k := Fin.ext hb
  rfl

/-- The head's second bias, in the first two places of eight. -/
theorem bias4_at (c : Dev nD) (k : Fin 2) :
    (W3 m ρ c (Proc.devRef .tc main_v317) : Vec Ideal S1x8 .f32) (ix2 0 ⟨k.val, by omega⟩) = (weights m ρ c).d2 k := by
  have z : ∀ i, (W3 m ρ c (Proc.devRef .tc main_v316) : IVec S2 32) i = 0#32 := by
    intro i
    after_reads_simp
    pointwise
    split <;> rfl
  revert z
  after_reads_simp
  intro z
  rw [W2_args m ρ c main_arg15 (by decide)]
  refine Routing.scatter_set_hit _ _ _ _ _ _ (fun i hi => ?_) (ix1 k) ((lands_row _ z _ _).2 rfl)
  obtain ⟨b, rfl⟩ : ∃ b : Fin 2, i = ix1 b := ⟨i 0, eq_ix1 i⟩
  obtain rfl : b = k := Fin.ext ((lands_row _ z _ _).1 hi)
  rfl

/-- The head block's operands. -/
theorem operands (c : Dev nD) :
    Head.Operands (weights m ρ c) (average m ρ c)
      (fun j l => (W0 m ρ c (Proc.devRef .tc main_arg1) : Vec Ideal S512x64 .f32) (ix2 j l))
      (W3 m ρ c (Proc.devRef .tc main_v309)) (W3 m ρ c (Proc.devRef .tc main_arg1)) (W3 m ρ c (Proc.devRef .tc main_arg8))
      (W3 m ρ c (Proc.devRef .tc main_v318)) (W3 m ρ c (Proc.devRef .tc main_arg10)) (W3 m ρ c (Proc.devRef .tc main_v319))
      (W3 m ρ c (Proc.devRef .tc main_arg12)) (W3 m ρ c (Proc.devRef .tc main_v320)) (W3 m ρ c (Proc.devRef .tc main_v312))
      (W3 m ρ c (Proc.devRef .tc main_v317)) where
  averages := averages_at m ρ c
  latent j k := by rw [W3_args m ρ c main_arg1 (by decide)]
  weight1 f k := by rw [W3_args m ρ c main_arg8 (by decide)]; rfl
  bias1 := bias1_at m ρ c
  weight2 f k := by rw [W3_args m ρ c main_arg10 (by decide)]; rfl
  bias2 := bias2_at m ρ c
  weight3 f k := by rw [W3_args m ρ c main_arg12 (by decide)]; rfl
  bias3 := bias3_at m ρ c
  weight4 := weight4_at m ρ c
  bias4 := bias4_at m ρ c

end Cert.HeadOperands

end
-- ==== Proof.Array1.lean ====
/- The array the head block leaves, and the kernel's result. -/
module

public import proofs.«01_k».proof.Proof.HeadOperands

@[expose] public section

set_option maxRecDepth 16384

noncomputable section

namespace Cert.Array1

open Cert.KernelIdeal Cert.KernelIdeal.Gen
open Idealize.ShloMosaic Idealize.ShloMosaic.TcCoe

variable (m : (ℓ : Loc nD τ sig) → Buf (Elt Ideal) ℓ) (ρ : Dev nD → PrngReg)
variable (V : (c : Dev nD) → (b : Ref sig .tc) → Buf (Elt Ideal) ((c : Thread nD τ).loc b))

theorem i0 : ∀ t : Fin cfg1.N, win1_0.index t = ![0, 0] := (by decide +kernel : ∀ t : Fin grid1.N, _)
theorem i1 : ∀ t : Fin cfg1.N, win1_1.index t = ![0, 0] := (by decide +kernel : ∀ t : Fin grid1.N, _)
theorem i2 : ∀ t : Fin cfg1.N, win1_2.index t = ![0, 0] := (by decide +kernel : ∀ t : Fin grid1.N, _)
theorem i3 : ∀ t : Fin cfg1.N, win1_3.index t = ![0, 0] := (by decide +kernel : ∀ t : Fin grid1.N, _)
theorem i4 : ∀ t : Fin cfg1.N, win1_4.index t = ![0, 0] := (by decide +kernel : ∀ t : Fin grid1.N, _)
theorem i5 : ∀ t : Fin cfg1.N, win1_5.index t = ![0, 0] := (by decide +kernel : ∀ t : Fin grid1.N, _)
theorem i6 : ∀ t : Fin cfg1.N, win1_6.index t = ![0, 0] := (by decide +kernel : ∀ t : Fin grid1.N, _)
theorem i7 : ∀ t : Fin cfg1.N, win1_7.index t = ![0, 0] := (by decide +kernel : ∀ t : Fin grid1.N, _)
theorem i8 : ∀ t : Fin cfg1.N, win1_8.index t = ![0, 0] := (by decide +kernel : ∀ t : Fin grid1.N, _)
theorem i9 : ∀ t : Fin cfg1.N, win1_9.index t = ![0, 0] := (by decide +kernel : ∀ t : Fin grid1.N, _)
theorem i10 : ∀ t : Fin cfg1.N, win1_10.index t = ![0, 0] := (by decide +kernel : ∀ t : Fin grid1.N, _)

/-- Operand 0 is handed over whole. -/
theorem blk0 (c : Dev nD) (t : Fin cfg1.N) : (iblk1 V c 0 t : Vec Ideal S512x16 .f32) = V c main_v309 := by
  funext i
  blk_simp [iblk1]
  refine congrArg _ ?_
  blk_ext [i0]

/-- Operand 1 is handed over whole. -/
theorem blk1 (c : Dev nD) (t : Fin cfg1.N) : (iblk1 V c 1 t : Vec Ideal S512x64 .f32) = V c main_arg1 := by
  funext i
  blk_simp [iblk1]
  refine congrArg _ ?_
  blk_ext [i1]

/-- Operand 2 is handed over whole. -/
theorem blk2 (c : Dev nD) (t : Fin cfg1.N) : (iblk1 V c 2 t : Vec Ideal S16x32 .f32) = V c main_arg8 := by
  funext i
  blk_simp [iblk1]
  refine congrArg _ ?_
  blk_ext [i2]

/-- Operand 3 is handed over whole. -/
theorem blk3 (c : Dev nD) (t : Fin cfg1.N) : (iblk1 V c 3 t : Vec Ideal S1x32 .f32) = V c main_v318 := by
  funext i
  blk_simp [iblk1]
  refine congrArg _ ?_
  blk_ext [i3]

/-- Operand 4 is handed over whole. -/
theorem blk4 (c : Dev nD) (t : Fin cfg1.N) : (iblk1 V c 4 t : Vec Ideal S32x64 .f32) = V c main_arg10 := by
  funext i
  blk_simp [iblk1]
  refine congrArg _ ?_
  blk_ext [i4]

/-- Operand 5 is handed over whole. -/
theorem blk5 (c : Dev nD) (t : Fin cfg1.N) : (iblk1 V c 5 t : Vec Ideal S1x64 .f32) = V c main_v319 := by
  funext i
  blk_simp [iblk1]
  refine congrArg _ ?_
  blk_ext [i5]

/-- Operand 6 is handed over whole. -/
theorem blk6 (c : Dev nD) (t : Fin cfg1.N) : (iblk1 V c 6 t : Vec Ideal S128x64 .f32) = V c main_arg12 := by
  funext i
  blk_simp [iblk1]
  refine congrArg _ ?_
  blk_ext [i6]

/-- Operand 7 is handed over whole. -/
theorem blk7 (c : Dev nD) (t : Fin cfg1.N) : (iblk1 V c 7 t : Vec Ideal S1x64 .f32) = V c main_v320 := by
  funext i
  blk_simp [iblk1]
  refine congrArg _ ?_
  blk_ext [i7]

/-- Operand 8 is handed over whole. -/
theorem blk8 (c : Dev nD) (t : Fin cfg1.N) : (iblk1 V c 8 t : Vec Ideal S64x8 .f32) = V c main_v312 := by
  funext i
  blk_simp [iblk1]
  refine congrArg _ ?_
  blk_ext [i8]

/-- Operand 9 is handed over whole. -/
theorem blk9 (c : Dev nD) (t : Fin cfg1.N) : (iblk1 V c 9 t : Vec Ideal S1x8 .f32) = V c main_v317 := by
  funext i
  blk_simp [iblk1]
  refine congrArg _ ?_
  blk_ext [i9]

/-- What the head block computes. -/
def outputs (c : Dev nD) : Vec Ideal S512x8 .f32 :=
  out1_10 (V3 m ρ c main_v309) (V3 m ρ c main_arg1) (V3 m ρ c main_arg8) (V3 m ρ c main_v318) (V3 m ρ c main_arg10)
    (V3 m ρ c main_v319) (V3 m ρ c main_arg12) (V3 m ρ c main_v320) (V3 m ρ c main_v312) (V3 m ρ c main_v317)

set_option maxHeartbeats 1600000 in
/-- After the head block the array holds what it computes. -/
theorem outputs_eq (c : Dev nD) : (dat1 (V3 m ρ) c).arrAt 10 cfg1.N = outputs m ρ c := by
  refine (dat1 (V3 m ρ) c).arrAt_eq_of_covers 10 _ (by decide +kernel) fun t hf y => ?_
  blk_simp
  rw [after1_10, blk0, blk1, blk2, blk3, blk4, blk5, blk6, blk7, blk8, blk9]
  have e : (win1_10.blk t).view.emb y = y := by
    obtain ⟨j, k, rfl⟩ : ∃ (j : Fin 512) (k : Fin 8), y = ix2 j k := ⟨y 0, y 1, eq_ix2 y⟩
    blk_ext [i10]
  rw [e]
  rfl

/-- The result at an index. -/
theorem result_at (c : Dev nD) (j : Fin 512) (k : Fin 2) :
    (W5 m ρ c (Proc.devRef .tc main_v322) : Vec Ideal S512x2 .f32) (ix2 j k) =
      Args.outcome (Operands.weights m ρ c) (HeadOperands.weights m ρ c) (W0 m ρ c (Proc.devRef .tc main_arg0))
        (W0 m ρ c (Proc.devRef .tc main_arg1)) j k := by
  after_reads_simp
  pointwise
  have e : W4 m ρ c (Proc.devRef .tc main_v321) = outputs m ρ c := (W4_arr m ρ c 10).trans (outputs_eq m ρ c)
  rw [e]
  exact Head.out_at (HeadOperands.operands m ρ c) j k

/-- The result. -/
def result (c : Dev nD) : Vec Ideal S512x2 .f32 := fun i =>
  Args.outcome (Operands.weights m ρ c) (HeadOperands.weights m ρ c) (W0 m ρ c (Proc.devRef .tc main_arg0))
    (W0 m ρ c (Proc.devRef .tc main_arg1)) (i 0) (i 1)

theorem result_eq (c : Dev nD) : (W5 m ρ c (Proc.devRef .tc main_v322) : Vec Ideal S512x2 .f32) = result m ρ c := by
  funext i
  obtain ⟨j, k, rfl⟩ : ∃ (j : Fin 512) (k : Fin 2), i = ix2 j k := ⟨i 0, i 1, eq_ix2 i⟩
  exact result_at m ρ c j k

end Cert.Array1

end
-- ==== Proof.KernelRun.lean ====
/- The kernel's run: it ends with the result in place and the arguments as launched. -/
module

public import proofs.«01_k».proof.Proof.Array1

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ
variable (m : (ℓ : Loc nD τ sig) → Buf (Elt Ideal) ℓ) (ρ : Dev nD → PrngReg)

/-- Every run ends with each graph's result and every argument as launched. -/
theorem run : θ_run defs (onTc (τ := τ) (main (F := Ideal))) ⟨m, fun _ => 0, ρ⟩ (fun r => ∀ c : Dev nD,
      r.2.mem ((c.tc : Thread nD τ).loc main_v322) = Array1.result m ρ c
      ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v322 (by decide))).trans (Array1.result_eq m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

end Cert.KernelRun

end
-- ==== Proof.Edges.lean ====
/- The edges of the graphs. Edge `e` goes from node `row e` to node `col e`. Every graph has 64 nodes; the first
   2064384 edges join each node to the 63 others of its graph, and the last 32768 are the loops. So exactly 64 edges
   arrive at a node, one from each node of its graph. -/
module

public import Mathlib.Algebra.BigOperators.Group.Finset.Basic
public import Mathlib.Data.Fintype.Basic

@[expose] public section

open scoped BigOperators

namespace Cert.Edges

/-- The node edge `e` leaves. -/
def row (e : ℕ) : ℕ := if e < 2064384 then 64 * (e / 4032) + e / 63 % 64 else e - 2064384

/-- The node edge `e` arrives at. -/
def col (e : ℕ) : ℕ :=
  if e < 2064384 then 64 * (e / 4032) + (if e % 63 < e / 63 % 64 then e % 63 else e % 63 + 1) else e - 2064384

theorem row_lt (e : Fin 2097152) : row e.val < 32768 := by
  unfold row
  split <;> omega

theorem col_lt (e : Fin 2097152) : col e.val < 32768 := by
  unfold col
  split
  · split <;> omega
  · omega

/-- The number of the edge that leaves node `r` of `j`'s graph and arrives at `j`. -/
def number (j r : ℕ) : ℕ :=
  if r = j % 64 then 2064384 + j
  else 4032 * (j / 64) + 63 * r + (if j % 64 < r then j % 64 else j % 64 - 1)

theorem number_lt (j : Fin 32768) (r : Fin 64) : number j.val r.val < 2097152 := by
  unfold number
  split
  · omega
  · split <;> omega

/-- The edge that leaves node `r` of `j`'s graph and arrives at `j`. -/
def edge (j : Fin 32768) (r : Fin 64) : Fin 2097152 := ⟨number j.val r.val, number_lt j r⟩

theorem digits {e g r k : ℕ} (h : e = 4032 * g + 63 * r + k) (hr : r < 64) (hk : k < 63) :
    e / 4032 = g ∧ e / 63 % 64 = r ∧ e % 63 = k := by
  have h1 : e / 63 = 64 * g + r := by omega
  refine ⟨by omega, by omega, by omega⟩

theorem digits_of (e : ℕ) : e = 4032 * (e / 4032) + 63 * (e / 63 % 64) + e % 63 := by
  have h1 : e / 63 / 64 = e / 4032 := Nat.div_div_eq_div_mul e 63 64
  omega

theorem row_number (j : Fin 32768) (r : Fin 64) : row (number j.val r.val) = 64 * (j.val / 64) + r.val := by
  unfold number
  by_cases h : r.val = j.val % 64
  · rw [if_pos h]
    unfold row
    rw [if_neg (by omega)]
    omega
  · rw [if_neg h]
    unfold row
    obtain ⟨h1, h2, -⟩ := digits (e := 4032 * (j.val / 64) + 63 * r.val + (if j.val % 64 < r.val then j.val % 64 else j.val % 64 - 1))
      rfl r.isLt (by split <;> omega)
    rw [h1, h2, if_pos (by split <;> omega)]

theorem col_number (j : Fin 32768) (r : Fin 64) : col (number j.val r.val) = j.val := by
  unfold number
  by_cases h : r.val = j.val % 64
  · rw [if_pos h]
    unfold col
    rw [if_neg (by omega)]
    omega
  · rw [if_neg h]
    unfold col
    obtain ⟨h1, h2, h3⟩ := digits (e := 4032 * (j.val / 64) + 63 * r.val + (if j.val % 64 < r.val then j.val % 64 else j.val % 64 - 1))
      rfl r.isLt (by split <;> omega)
    rw [h1, h2, h3, if_pos (by split <;> omega)]
    by_cases hl : j.val % 64 < r.val
    · simp only [if_pos hl]
      omega
    · simp only [if_neg hl]
      rw [if_neg (by omega)]
      omega

theorem number_of (e : Fin 2097152) : number (col e.val) (row e.val % 64) = e.val := by
  have d := digits_of e.val
  have hr : e.val / 63 % 64 < 64 := Nat.mod_lt _ (by decide)
  have hk : e.val % 63 < 63 := Nat.mod_lt _ (by decide)
  unfold number row col
  generalize e.val / 63 % 64 = r at *
  by_cases h : e.val < 2064384
  · simp only [if_pos h]
    generalize e.val / 4032 = g at *
    generalize e.val % 63 = k at *
    by_cases hl : k < r
    · simp only [if_pos hl]
      rw [if_neg (by omega), if_pos (by omega)]
      omega
    · simp only [if_neg hl]
      rw [if_neg (by omega), if_neg (by omega)]
      omega
  · simp only [if_neg h]
    rw [if_pos trivial]
    omega

/-- A sum over the edges that arrive at `j` is a sum over the nodes of `j`'s graph. -/
theorem sum_into {M : Type} [AddCommMonoid M] (j : Fin 32768) (f : Fin 2097152 → M) :
    ∑ e ∈ Finset.univ.filter (fun e : Fin 2097152 => col e.val = j.val), f e = ∑ r : Fin 64, f (edge j r) := by
  symm
  refine Finset.sum_bij' (fun r _ => edge j r) (fun e _ => ⟨row e.val % 64, Nat.mod_lt _ (by decide)⟩) ?_ ?_ ?_ ?_ ?_
  · intro r _
    exact Finset.mem_filter.2 ⟨Finset.mem_univ _, col_number j r⟩
  · intro e _
    exact Finset.mem_univ _
  · intro r _
    refine Fin.ext ?_
    show row (number j.val r.val) % 64 = r.val
    rw [row_number]
    omega
  · intro e he
    refine Fin.ext ?_
    show number j.val (row e.val % 64) = e.val
    rw [← (Finset.mem_filter.1 he).2]
    exact number_of e
  · intro r _
    rfl

end Cert.Edges
-- ==== Proof.RefWords.lean ====
/- The index words of the reference's edges. -/
module

public import proofs.«01_k».proof.Proof.Gen.ReferenceIdeal.Run
public import proofs.«01_k».proof.Proof.Edges
public import Idealize.ShloMosaic.Lib.Pointwise
public import Idealize.ShloMosaic.Lib.WordCmp

@[expose] public section

set_option maxRecDepth 400000

noncomputable section

namespace Cert.RefWords

open Cert.ReferenceIdeal Cert.ReferenceIdeal.Gen Cert.ReferenceIdeal.Value
open Idealize.ShloMosaic Idealize.ShloMosaic.TcCoe

variable (V : Valuation τ sig (Elt Ideal))

/-- Words added and scaled. -/
theorem word (a b : ℕ) :
    IntOp.addi (IntOp.muli (BitVec.ofNat 32 a) 64#32) (BitVec.ofNat 32 b) = BitVec.ofNat 32 (64 * a + b) := by
  show BitVec.ofNat 32 a * BitVec.ofNat 32 64 + BitVec.ofNat 32 b = _
  rw [← BitVec.ofNat_mul, ← BitVec.ofNat_add, Nat.mul_comm]

set_option maxHeartbeats 4000000 in
/-- The nodes the edges leave. -/
theorem rows_at (e : Fin 2097152) : (res_main_v156 V : IVec S2097152 32) (ix1 e) = BitVec.ofNat 32 (Edges.row e.val) := by
  pointwise [res_main_v156, res_main_v149, res_main_v155, res_main_v139, res_main_v140]
  unfold Edges.row
  by_cases h : e.val < 2064384
  · rw [dif_pos h, if_pos h, word]
  · rw [dif_neg h, if_neg h]

set_option maxHeartbeats 4000000 in
/-- The nodes the edges arrive at. -/
theorem cols_at (e : Fin 2097152) : (res_main_v157 V : IVec S2097152 32) (ix1 e) = BitVec.ofNat 32 (Edges.col e.val) := by
  pointwise [res_main_v157, res_main_v153, res_main_v155, res_main_v139, res_main_v140, res_main_v141]
  unfold Edges.col
  by_cases h : e.val < 2064384
  · rw [dif_pos h, if_pos h]
    have h1 : e.val % 63 < 63 := Nat.mod_lt _ (by decide)
    have h2 : e.val / 63 % 64 < 64 := Nat.mod_lt _ (by decide)
    simp (disch := omega) only [WordCmp.cmpi_slt_ofNat, Scalar.select_decide]
    by_cases hl : e.val % 63 < e.val / 63 % 64
    · rw [if_pos hl, if_pos hl, word]
    · rw [if_neg hl, if_neg hl]
      rw [show IntOp.addi (BitVec.ofNat 32 (e.val % 63)) 1#32 = BitVec.ofNat 32 (e.val % 63 + 1) from
        (BitVec.ofNat_add ..).symm, word]
  · rw [dif_neg h, if_neg h]

theorem rows2_eq : (res_main_v212 V : IVec S2097152 32) = res_main_v156 V := rfl

theorem cols2_eq : (res_main_v213 V : IVec S2097152 32) = res_main_v157 V := rfl

end Cert.RefWords

end
-- ==== Proof.Arrivals.lean ====
/- Accumulating scatters of whole rows, and of single entries, at an index: the sum of the updates whose index word
   points there. -/
module

public import Idealize.ShloMosaic.Lib.Routing.OpsSet
public import Idealize.ShloMosaic.Lib.Pointwise

@[expose] public section

noncomputable section

open scoped BigOperators

namespace Cert.Arrivals

open Idealize.ShloMosaic

/-- Entry `l` of row `e` of the updates lands at entry `l` of the row its index word, read signed, points at. -/
theorem lands_rows {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (l : Fin C) (j : Fin N) (k : Fin C) :
    d.resultIdx? (ix2 e l) idx = some (ix2 j k) ↔ (idx (ix2 e 0)).toInt = j.val ∧ l = k := by
  have first : ∀ (q : List (Fin 2)) (n : ℕ) (h : n < q.length) (v : Fin 2), q = [v] → q[n]'h = v := by
    rintro q n h v rfl
    have : n = 0 := by simpa using h
    subst this; rfl
  have kept : d.siKept = [0] := by
    show (List.finRange 2).filter (fun x => decide (x.val ≠ d.indexVectorDim)) = _
    rw [hivd]; rfl
  have scat : d.uScatter = [0] := by
    show Shape.kept ⟨2, ![E, C]⟩ d.updateWindowDims = _
    rw [huw]; rfl
  have window : d.sKept = [1] := by
    show Shape.kept ⟨2, ![N, C]⟩ d.insertedWindowDims = _
    rw [hiw]; rfl
  have mem0 : (0 : Fin 2) ∈ d.scatterDimsToOperandDims := by rw [hsd]; simp
  have mem1 : (1 : Fin 2) ∉ d.scatterDimsToOperandDims := by rw [hsd]; simp
  have word : d.siIdx (ix2 e l) ⟨d.scatterDimsToOperandDims.idxOf 0, List.idxOf_lt_length_iff.2 mem0⟩ = ix2 e 0 := by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      rw [first _ _ _ 0 scat]
      rfl
    | ⟨1, _⟩ =>
      unfold ScatterDims.siIdx
      rw [dif_pos (by rw [hivd])]
      show List.idxOf (0 : Fin 2) d.scatterDimsToOperandDims = 0
      rw [hsd]; rfl
  have start0 : d.start (ix2 e l) idx 0 = (idx (ix2 e 0)).toInt := by
    unfold ScatterDims.start
    rw [dif_pos mem0, word]
  have start1 : d.start (ix2 e l) idx 1 = 0 := by
    unfold ScatterDims.start
    rw [dif_neg mem1]
  have window0 : d.window (ix2 e l) 0 = 0 := by
    unfold ScatterDims.window
    rw [dif_neg (by rw [window]; simp)]
  have window1 : d.window (ix2 e l) 1 = l.val := by
    unfold ScatterDims.window
    rw [dif_pos (by rw [window]; simp)]
    rw [first _ _ _ 1 huw]
    rfl
  rw [Routing.resultIdx?_eq_some]
  constructor
  · intro h
    have h0 := h 0
    have h1 := h 1
    rw [start0, window0] at h0
    rw [start1, window1] at h1
    refine ⟨?_, Fin.ext ?_⟩
    · have e0 : ((ix2 j k : (⟨2, ![N, C]⟩ : Shape).Idx) 0).val = j.val := rfl
      omega
    · have e1 : ((ix2 j k : (⟨2, ![N, C]⟩ : Shape).Idx) 1).val = k.val := rfl
      omega
  · rintro ⟨h0, rfl⟩ q
    match q with
    | ⟨0, _⟩ =>
      show d.start (ix2 e l) idx 0 + (d.window (ix2 e l) 0 : Int) = (j.val : Int)
      rw [start0, window0, h0]; omega
    | ⟨1, _⟩ =>
      show d.start (ix2 e l) idx 1 + (d.window (ix2 e l) 1 : Int) = (l.val : Int)
      rw [start1, window1]; omega

/-- Entry `e` of the updates lands where its index word, read signed, points. -/
theorem lands_entries {N E w : ℕ} (d : ScatterDims ⟨1, ![N]⟩ ⟨2, ![E, 1]⟩ ⟨1, ![E]⟩)
    (hiw : d.insertedWindowDims = [0]) (hsd : d.scatterDimsToOperandDims = [0])
    (hivd : d.indexVectorDim = 1) (idx : IVec ⟨2, ![E, 1]⟩ w) (e : Fin E) (j : Fin N) :
    d.resultIdx? (ix1 e) idx = some (ix1 j) ↔ (idx (ix2 e 0)).toInt = j.val := by
  have nowin : d.updateWindowDims = [] := List.eq_nil_of_length_eq_zero (by
    rw [d.window_length]
    show (Shape.kept ⟨1, ![N]⟩ d.insertedWindowDims).length = 0
    rw [hiw]; rfl)
  have mem0 : (0 : Fin 1) ∈ d.scatterDimsToOperandDims := by rw [hsd]; simp
  have word : d.siIdx (ix1 e) ⟨d.scatterDimsToOperandDims.idxOf 0, List.idxOf_lt_length_iff.2 mem0⟩ = ix2 e 0 := by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      show ((ix1 e : (⟨1, ![E]⟩ : Shape).Idx) _).val = e.val
      exact congrArg (fun q : Fin 1 => ((ix1 e : (⟨1, ![E]⟩ : Shape).Idx) q).val) (Subsingleton.elim _ 0)
    | ⟨1, _⟩ =>
      unfold ScatterDims.siIdx
      rw [dif_pos (by rw [hivd])]
      show List.idxOf (0 : Fin 1) d.scatterDimsToOperandDims = 0
      rw [hsd]; rfl
  have start0 : d.start (ix1 e) idx 0 = (idx (ix2 e 0)).toInt := by
    unfold ScatterDims.start
    rw [dif_pos mem0, word]
  have window0 : d.window (ix1 e) 0 = 0 := by
    unfold ScatterDims.window
    rw [dif_neg fun h => (of_decide_eq_true (List.mem_filter.1 h).2) (by rw [hiw]; simp)]
  rw [Routing.resultIdx?_eq_some]
  constructor
  · intro h
    have h0 := h 0
    rw [start0, window0] at h0
    have e0 : ((ix1 j : (⟨1, ![N]⟩ : Shape).Idx) 0).val = j.val := rfl
    omega
  · intro h0 q
    obtain rfl : q = 0 := Subsingleton.elim _ _
    show d.start (ix1 e) idx 0 + (d.window (ix1 e) 0 : Int) = (j.val : Int)
    rw [start0, window0, h0]; omega

/-- Rows accumulated: entry `(j, k)` gains entry `k` of every row whose index word points at `j`. -/
theorem rows_at {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (x : FVec Ideal ⟨2, ![N, C]⟩ .f32) (idx : IVec ⟨2, ![E, 1]⟩ w)
    (u : FVec Ideal ⟨2, ![E, C]⟩ .f32) (j : Fin N) (k : Fin C) :
    (Host.scatterAdd d x idx u (ix2 j k) : EReal) =
      x (ix2 j k) + ∑ e ∈ Finset.univ.filter (fun e : Fin E => (idx (ix2 e 0)).toInt = j.val), u (ix2 e k) := by
  refine congrArg (x (ix2 j k) + ·) ?_
  refine Finset.sum_bij' (fun i _ => i 0) (fun e _ => ix2 e k) ?_ ?_ ?_ ?_ ?_
  · intro i hi
    obtain ⟨e, l, rfl⟩ : ∃ (e : Fin E) (l : Fin C), i = ix2 e l := ⟨i 0, i 1, eq_ix2 i⟩
    exact Finset.mem_filter.2 ⟨Finset.mem_univ _, ((lands_rows d huw hiw hsd hivd idx e l j k).1 (Finset.mem_filter.1 hi).2).1⟩
  · intro e he
    exact Finset.mem_filter.2 ⟨Finset.mem_univ _, (lands_rows d huw hiw hsd hivd idx e k j k).2 ⟨(Finset.mem_filter.1 he).2, rfl⟩⟩
  · intro i hi
    obtain ⟨e, l, rfl⟩ : ∃ (e : Fin E) (l : Fin C), i = ix2 e l := ⟨i 0, i 1, eq_ix2 i⟩
    obtain rfl := ((lands_rows d huw hiw hsd hivd idx e l j k).1 (Finset.mem_filter.1 hi).2).2
    rfl
  · intro e _
    rfl
  · intro i hi
    obtain ⟨e, l, rfl⟩ : ∃ (e : Fin E) (l : Fin C), i = ix2 e l := ⟨i 0, i 1, eq_ix2 i⟩
    obtain rfl := ((lands_rows d huw hiw hsd hivd idx e l j k).1 (Finset.mem_filter.1 hi).2).2
    rfl

/-- Entries accumulated: entry `j` gains every update whose index word points at `j`. -/
theorem entries_at {N E w : ℕ} (d : ScatterDims ⟨1, ![N]⟩ ⟨2, ![E, 1]⟩ ⟨1, ![E]⟩)
    (hiw : d.insertedWindowDims = [0]) (hsd : d.scatterDimsToOperandDims = [0])
    (hivd : d.indexVectorDim = 1) (x : FVec Ideal ⟨1, ![N]⟩ .f32) (idx : IVec ⟨2, ![E, 1]⟩ w)
    (u : FVec Ideal ⟨1, ![E]⟩ .f32) (j : Fin N) :
    (Host.scatterAdd d x idx u (ix1 j) : EReal) =
      x (ix1 j) + ∑ e ∈ Finset.univ.filter (fun e : Fin E => (idx (ix2 e 0)).toInt = j.val), u (ix1 e) := by
  refine congrArg (x (ix1 j) + ·) ?_
  refine Finset.sum_bij' (fun i _ => i 0) (fun e _ => ix1 e) ?_ ?_ ?_ ?_ ?_
  · intro i hi
    obtain ⟨e, rfl⟩ : ∃ e : Fin E, i = ix1 e := ⟨i 0, eq_ix1 i⟩
    exact Finset.mem_filter.2 ⟨Finset.mem_univ _, (lands_entries d hiw hsd hivd idx e j).1 (Finset.mem_filter.1 hi).2⟩
  · intro e he
    exact Finset.mem_filter.2 ⟨Finset.mem_univ _, (lands_entries d hiw hsd hivd idx e j).2 (Finset.mem_filter.1 he).2⟩
  · intro i _
    exact (eq_ix1 i).symm
  · intro e _
    rfl
  · intro i _
    exact congrArg u (eq_ix1 i)

end Cert.Arrivals

end
-- ==== Proof.RefEdges.lean ====
/- The reference's edges: every node has 64 arriving edges, so every edge is weighed by a sixty-fourth. -/
module

public import proofs.«01_k».proof.Proof.RefWords
public import proofs.«01_k».proof.Proof.Arrivals
public import proofs.«01_k».proof.Proof.Numbers

@[expose] public section

set_option maxRecDepth 16384

noncomputable section

open scoped BigOperators

namespace Cert.RefEdges

open Cert.ReferenceIdeal Cert.ReferenceIdeal.Gen Cert.ReferenceIdeal.Value
open Idealize.ShloMosaic Idealize.ShloMosaic.TcCoe

/-- The index words, one to a row, a negative one counted from the end. -/
def wrap (v : IVec S2097152 32) : IVec S2097152x1 32 :=
  broadcastInDim S2097152x1 ![0] bcast_S2097152_S2097152x1_0
    (select (cmpi .slt v (broadcastInDim S2097152 ![] bcast_S_S2097152 (constantI S_ 32 0#32)))
      (addi v (broadcastInDim S2097152 ![] bcast_S_S2097152 (constantI S_ 32 32768#32))) v)

/-- A word that is not negative is kept. -/
theorem wrap_at (v : IVec S2097152 32) (e : Fin 2097152) (n : ℕ) (hn : n < 32768) (h : v (ix1 e) = BitVec.ofNat 32 n) :
    wrap v (ix2 e 0) = BitVec.ofNat 32 n := by
  pointwise [wrap]
  rw [h]
  refine Routing.wrap_of_lt _ _ ?_
  rw [BitVec.toNat_ofNat]
  omega

/-- Its signed value. -/
theorem wrap_toInt (v : IVec S2097152 32) (e : Fin 2097152) (n : ℕ) (hn : n < 32768) (h : v (ix1 e) = BitVec.ofNat 32 n) :
    (wrap v (ix2 e 0)).toInt = n := by
  rw [wrap_at v e n hn h, StableHlo.Predicate.toInt_ofNat_small _ (by omega)]

/-- A sum over the updates that arrive at `j`. -/
theorem arrive (v : IVec S2097152 32) (h : ∀ e, v (ix1 e) = BitVec.ofNat 32 (Edges.col e.val)) (j : Fin 32768)
    (f : Fin 2097152 → EReal) :
    ∑ e ∈ Finset.univ.filter (fun e : Fin 2097152 => (wrap v (ix2 e 0)).toInt = j.val), f e =
      ∑ r : Fin 64, f (Edges.edge j r) := by
  rw [← Edges.sum_into j f]
  refine Finset.sum_congr (Finset.filter_congr fun e _ => ?_) fun _ _ => rfl
  rw [wrap_toInt v e _ (Edges.col_lt e) (h e)]
  exact Int.natCast_inj

/-- The number of edges that arrive at each node. -/
def degree (c : IVec S2097152 32) : FVec Ideal S32768 .f32 :=
  Host.scatterAdd scatter_S32768_S2097152x1_S2097152_n_0_0_1
    (broadcastInDim S32768 ![] bcast_S_S32768 (constant S_ .f32 0x00000000#32)) (wrap c)
    (broadcastInDim S2097152 ![] bcast_S_S2097152 (constant S_ .f32 0x3F800000#32))

/-- The word of minus a half. -/
theorem wordHalf : Ideal.ofBits .f32 0xBF000000#32 = (((-1 / 2 : ℝ)) : EReal) := by
  simp [Ideal.ofBits, Ideal.ieee, -EReal.coe_mul]
  norm_num

/-- Sixty-four ones. -/
theorem ones : (∑ _r : Fin 64, (1 : EReal)) = (((64 : ℝ)) : EReal) := by
  rw [Finset.sum_const, Finset.card_univ, Fintype.card_fin, nsmul_one]
  norm_cast

/-- Every node has 64 arriving edges. -/
theorem degree_at (c : IVec S2097152 32) (h : ∀ e, c (ix1 e) = BitVec.ofNat 32 (Edges.col e.val)) (j : Fin 32768) :
    degree c (ix1 j) = (((64 : ℝ)) : EReal) := by
  unfold degree
  rw [Arrivals.entries_at _ rfl rfl rfl, arrive c h]
  have z : (broadcastInDim S32768 ![] bcast_S_S32768 (constant (F := Ideal) S_ .f32 0x00000000#32) (ix1 j) : EReal) = 0 := by
    pointwise
  have o : ∀ e : Fin 2097152,
      (broadcastInDim S2097152 ![] bcast_S_S2097152 (constant (F := Ideal) S_ .f32 0x3F800000#32) (ix1 e) : EReal) = 1 := by
    intro e
    pointwise
  rw [z, zero_add, ← ones]
  exact Finset.sum_congr rfl fun r _ => o _

/-- One over the square root of the number of arriving edges. -/
def root (d : FVec Ideal S32768 .f32) : FVec Ideal S32768 .f32 :=
  select (cmpf .ogt d (broadcastInDim S32768 ![] bcast_S_S32768 (constant S_ .f32 0x00000000#32)))
    (Host.powf d (broadcastInDim S32768 ![] bcast_S_S32768 (constant S_ .f32 0xBF000000#32)))
    (broadcastInDim S32768 ![] bcast_S_S32768 (id (constant S_ .f32 0x00000000#32)))

/-- It is an eighth. -/
theorem root_at (d : FVec Ideal S32768 .f32) (j : Fin 32768) (h : d (ix1 j) = (((64 : ℝ)) : EReal)) :
    root d (ix1 j) = (((1 / 8 : ℝ)) : EReal) := by
  pointwise [root]
  rw [show (3204448256#32 : BitVec 32) = 0xBF000000#32 from rfl, wordHalf, h]
  rw [if_pos (by norm_cast)]
  show ((Real.rpow 64 (-1 / 2) : ℝ) : EReal) = _
  refine congrArg _ ?_
  show (64 : ℝ) ^ (-1 / 2 : ℝ) = 1 / 8
  rw [show (64 : ℝ) = 8 ^ (2 : ℝ) by norm_num, ← Real.rpow_mul (by norm_num)]
  norm_num

/-- Each edge's weight. -/
def scale (d : FVec Ideal S32768 .f32) (r c : IVec S2097152 32) : FVec Ideal S2097152 .f32 :=
  mulf (Host.gather gather_S32768_S2097152x1_S2097152_n_0_n_n_0_1_1 d (wrap r))
    (Host.gather gather_S32768_S2097152x1_S2097152_n_0_n_n_0_1_1 d (wrap c))

/-- It is a sixty-fourth. -/
theorem scale_at (d : FVec Ideal S32768 .f32) (r c : IVec S2097152 32)
    (hr : ∀ e, r (ix1 e) = BitVec.ofNat 32 (Edges.row e.val)) (hc : ∀ e, c (ix1 e) = BitVec.ofNat 32 (Edges.col e.val))
    (hd : ∀ j, d (ix1 j) = (((1 / 8 : ℝ)) : EReal)) (e : Fin 2097152) : scale d r c (ix1 e) = (64 : EReal)⁻¹ := by
  have g1 : Host.gather gather_S32768_S2097152x1_S2097152_n_0_n_n_0_1_1 d (wrap r) (ix1 e) =
      d (ix1 (⟨Edges.row e.val, Edges.row_lt e⟩ : Fin 32768)) := by
    rw [ix1_eq_valueIdx, ix1_eq_valueIdx]
    exact Routing.gather_take1 _ rfl rfl rfl rfl d _ _ _ (wrap_at r e _ (Edges.row_lt e) (hr e)) (by decide)
  have g2 : Host.gather gather_S32768_S2097152x1_S2097152_n_0_n_n_0_1_1 d (wrap c) (ix1 e) =
      d (ix1 (⟨Edges.col e.val, Edges.col_lt e⟩ : Fin 32768)) := by
    rw [ix1_eq_valueIdx, ix1_eq_valueIdx]
    exact Routing.gather_take1 _ rfl rfl rfl rfl d _ _ _ (wrap_at c e _ (Edges.col_lt e) (hc e)) (by decide)
  show (Host.gather gather_S32768_S2097152x1_S2097152_n_0_n_n_0_1_1 d (wrap r) (ix1 e) : EReal) *
    Host.gather gather_S32768_S2097152x1_S2097152_n_0_n_n_0_1_1 d (wrap c) (ix1 e) = _
  rw [g1, g2, hd, hd, show (64 : EReal) = (((64 : ℝ)) : EReal) from by norm_cast, ← EReal.coe_inv, ← EReal.coe_mul]
  norm_num

end Cert.RefEdges

end
-- ==== Proof.RefConv.lean ====
/- The convolutions of the reference at an index. -/
module

public import proofs.«01_k».proof.Proof.Gen.ReferenceIdeal.Run
public import proofs.«01_k».proof.Proof.Args
public import Idealize.ShloMosaic.Lib.Pointwise

@[expose] public section

set_option maxRecDepth 16384

noncomputable section

open scoped BigOperators

namespace Cert.RefConv

open Cert.ReferenceIdeal Cert.ReferenceIdeal.Value
open Idealize.ShloMosaic Idealize.ShloMosaic.TcCoe

variable (V : Valuation τ sig (Elt Ideal))

/-- The image weights among the arguments. -/
def weights : Net.ImageWeights :=
  Args.imageWeights (V (Proc.devRef .tc main_arg2)) (V (Proc.devRef .tc main_arg3)) (V (Proc.devRef .tc main_arg4))
    (V (Proc.devRef .tc main_arg5)) (V (Proc.devRef .tc main_arg6)) (V (Proc.devRef .tc main_arg7))

/-- Image `n` among the arguments. -/
def picture (n : Fin 32768) : Fin 32 → Fin 32 → EReal := Args.picture (V (Proc.devRef .tc main_arg0)) n

theorem zero_word : (FloatOps.sitofp (F := Ideal) FTy.f32 (0#32) : EReal) = 0 := by
  show (((0#32 : BitVec 32).toInt : ℝ) : EReal) = 0
  simp

/-- The images with their borders. -/
theorem bordered_at (n : Fin 32768) (y x : Fin 34) :
    (res_main_v1 V : Vec Ideal S32768x1x34x34 .f32) (ix4 n 0 y x) = Net.padded (picture V n) y.val x.val := by
  pointwise [res_main_v1]
  unfold Net.padded
  by_cases h : (1 ≤ y.val ∧ y.val - 1 < 32) ∧ 1 ≤ x.val ∧ x.val - 1 < 32
  · rw [dif_pos h, dif_pos (by omega)]
    rfl
  · rw [dif_neg h, dif_neg (by omega)]
    exact zero_word

/-- One tap of the first convolution. -/
theorem tap1 (n : Fin 32768) (o : Fin 8) (y x : Fin 32) (dy dx : Fin 3) (Y X : Fin 34) (hY : Y.val = y.val + dy.val)
    (hX : X.val = x.val + dx.val) :
    (∑ _c : Fin 1, (HMul.hMul (α := EReal) (β := EReal) ((V (Proc.devRef .tc main_arg2) : Vec Ideal S8x1x3x3 .f32) (ix4 o 0 dy dx))
        ((res_main_v1 V : Vec Ideal S32768x1x34x34 .f32) (ix4 n 0 Y X)) : EReal)) =
      Net.padded (picture V n) (y.val + dy.val) (x.val + dx.val) * (weights V).k1 o dy dx := by
  rw [Fin.sum_univ_one, bordered_at, hY, hX, mul_comm]
  rfl

set_option maxHeartbeats 4000000 in
/-- The first convolution. -/
theorem conv1_at (n : Fin 32768) (o : Fin 8) (y x : Fin 32) :
    (res_main_v56 V : Vec Ideal S32768x8x32x32 .f32) (ix4 n o y x) = Net.conv1 (weights V).k1 (picture V n) o y x := by
  pointwise [res_main_v56]
  unfold Net.conv1
  simp only [Fin.sum_univ_three (M := EReal), ← add_assoc]
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  · refine tap1 V n o y x 0 0 _ _ ?_ ?_ <;> first | rfl | exact Nat.add_comm _ _
  · refine tap1 V n o y x 0 1 _ _ ?_ ?_ <;> first | rfl | exact Nat.add_comm _ _
  · refine tap1 V n o y x 0 2 _ _ ?_ ?_ <;> first | rfl | exact Nat.add_comm _ _
  · refine tap1 V n o y x 1 0 _ _ ?_ ?_ <;> first | rfl | exact Nat.add_comm _ _
  · refine tap1 V n o y x 1 1 _ _ ?_ ?_ <;> first | rfl | exact Nat.add_comm _ _
  · refine tap1 V n o y x 1 2 _ _ ?_ ?_ <;> first | rfl | exact Nat.add_comm _ _
  · refine tap1 V n o y x 2 0 _ _ ?_ ?_ <;> first | rfl | exact Nat.add_comm _ _
  · refine tap1 V n o y x 2 1 _ _ ?_ ?_ <;> first | rfl | exact Nat.add_comm _ _
  · refine tap1 V n o y x 2 2 _ _ ?_ ?_ <;> first | rfl | exact Nat.add_comm _ _

/-- The first layer. -/
theorem layer1_at (n : Fin 32768) (o : Fin 8) (y x : Fin 32) :
    (res_main_v61 V : Vec Ideal S32768x8x32x32 .f32) (ix4 n o y x) =
      Net.layer1 (weights V).k1 (weights V).b1 (picture V n) o y x := by
  pointwise [res_main_v61]
  rw [conv1_at]
  rfl

set_option maxHeartbeats 4000000 in
/-- The pooled first layer with its border. -/
theorem pooled_at (n : Fin 32768) (o : Fin 8) (y x : Fin 18) :
    (res_main_v69 V : Vec Ideal S32768x8x18x18 .f32) (ix4 n o y x) =
      Net.padded (Net.pooled (Net.layer1 (weights V).k1 (weights V).b1 (picture V n) o)) y.val x.val := by
  pointwise [res_main_v69]
  unfold Net.padded
  by_cases h : (1 ≤ y.val ∧ y.val - 1 < 16) ∧ 1 ≤ x.val ∧ x.val - 1 < 16
  · rw [dif_pos h, dif_pos (by omega)]
    unfold Net.pooled
    refine congrArg₂ (max (α := EReal)) (congrArg₂ (max (α := EReal)) ?_ ?_) (congrArg₂ (max (α := EReal)) ?_ ?_)
    · exact layer1_at V n o _ _
    · refine (layer1_at V n o _ _).trans (congrArg _ (Fin.ext ?_))
      exact Nat.add_comm _ _
    · refine (layer1_at V n o _ _).trans (congrArg (Net.layer1 _ _ _ o · _) (Fin.ext ?_))
      exact Nat.add_comm _ _
    · refine (layer1_at V n o _ _).trans (congrArg₂ (Net.layer1 _ _ _ o) (Fin.ext ?_) (Fin.ext ?_))
      · exact Nat.add_comm _ _
      · exact Nat.add_comm _ _
  · rw [dif_neg h, dif_neg (by omega)]
    exact zero_word

/-- One tap of the second convolution. -/
theorem tap2 (n : Fin 32768) (q : Fin 16) (y x : Fin 16) (dy dx : Fin 3) (Y X : Fin 18) (hY : Y.val = y.val + dy.val)
    (hX : X.val = x.val + dx.val) :
    (∑ i : Fin 8, (HMul.hMul (α := EReal) (β := EReal) ((V (Proc.devRef .tc main_arg4) : Vec Ideal S16x8x3x3 .f32) (ix4 q i dy dx))
        ((res_main_v69 V : Vec Ideal S32768x8x18x18 .f32) (ix4 n i Y X)) : EReal)) =
      ∑ i : Fin 8, Net.padded (Net.pooled (Net.layer1 (weights V).k1 (weights V).b1 (picture V n) i)) (y.val + dy.val)
        (x.val + dx.val) * (weights V).k2 q i dy dx := by
  refine Finset.sum_congr rfl fun i _ => ?_
  rw [pooled_at, hY, hX, mul_comm]
  rfl

set_option maxHeartbeats 4000000 in
/-- The second convolution. -/
theorem conv2_at (n : Fin 32768) (q : Fin 16) (y x : Fin 16) :
    (res_main_v124 V : Vec Ideal S32768x16x16x16 .f32) (ix4 n q y x) =
      Net.conv2 (weights V).k2 (fun i => Net.pooled (Net.layer1 (weights V).k1 (weights V).b1 (picture V n) i)) q y x := by
  pointwise [res_main_v124]
  unfold Net.conv2
  simp only [Fin.sum_univ_three (M := EReal), ← add_assoc]
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  · refine tap2 V n q y x 0 0 _ _ ?_ ?_ <;> first | rfl | exact Nat.add_comm _ _
  · refine tap2 V n q y x 0 1 _ _ ?_ ?_ <;> first | rfl | exact Nat.add_comm _ _
  · refine tap2 V n q y x 0 2 _ _ ?_ ?_ <;> first | rfl | exact Nat.add_comm _ _
  · refine tap2 V n q y x 1 0 _ _ ?_ ?_ <;> first | rfl | exact Nat.add_comm _ _
  · refine tap2 V n q y x 1 1 _ _ ?_ ?_ <;> first | rfl | exact Nat.add_comm _ _
  · refine tap2 V n q y x 1 2 _ _ ?_ ?_ <;> first | rfl | exact Nat.add_comm _ _
  · refine tap2 V n q y x 2 0 _ _ ?_ ?_ <;> first | rfl | exact Nat.add_comm _ _
  · refine tap2 V n q y x 2 1 _ _ ?_ ?_ <;> first | rfl | exact Nat.add_comm _ _
  · refine tap2 V n q y x 2 2 _ _ ?_ ?_ <;> first | rfl | exact Nat.add_comm _ _

end Cert.RefConv

end
-- ==== Proof.RefGraph.lean ====
/- The reference's graph layers at an index: every node becomes the average of its graph's nodes. -/
module

public import proofs.«01_k».proof.Proof.RefEdges
public import proofs.«01_k».proof.Proof.RefConv
public import proofs.«01_k».proof.Proof.Sums

@[expose] public section

set_option maxRecDepth 16384

noncomputable section

open scoped BigOperators

namespace Cert.RefGraph

open Cert.ReferenceIdeal Cert.ReferenceIdeal.Gen Cert.ReferenceIdeal.Value Cert.RefEdges
open Idealize.ShloMosaic Idealize.ShloMosaic.TcCoe

/-- Node `r` of the graph of node `j`. -/
def mate (j : Fin 32768) (r : Fin 64) : Fin 32768 := ⟨64 * (j.val / 64) + r.val, by omega⟩

theorem row_edge (j : Fin 32768) (r : Fin 64) :
    (⟨Edges.row (Edges.edge j r).val, Edges.row_lt _⟩ : Fin 32768) = mate j r := Fin.ext (Edges.row_number j r)

/-- What each edge carries: the entries of the node it leaves, weighed. -/
def send32 (x : FVec Ideal S32768x32 .f32) (s : FVec Ideal S2097152 .f32) (r : IVec S2097152 32) : FVec Ideal S2097152x32 .f32 :=
  mulf (Host.gather gather_S32768x32_S2097152x1_S2097152x32_1_0_n_n_0_1_132 x (wrap r))
    (broadcastInDim S2097152x32 ![0, 1] bcast_S2097152x1_S2097152x32_0_1
      (broadcastInDim S2097152x1 ![0] bcast_S2097152_S2097152x1_0 s))

/-- What each edge carries, at an index. -/
theorem send32_at (x : FVec Ideal S32768x32 .f32) (s : FVec Ideal S2097152 .f32) (r : IVec S2097152 32)
    (hr : ∀ e, r (ix1 e) = BitVec.ofNat 32 (Edges.row e.val)) (hs : ∀ e, s (ix1 e) = (64 : EReal)⁻¹) (e : Fin 2097152)
    (k : Fin 32) :
    (send32 x s r (ix2 e k) : EReal) = HMul.hMul (α := EReal) (x (ix2 ⟨Edges.row e.val, Edges.row_lt e⟩ k)) (64 : EReal)⁻¹ := by
  have g : Host.gather gather_S32768x32_S2097152x1_S2097152x32_1_0_n_n_0_1_132 x (wrap r) (ix2 e k) =
      x (ix2 (⟨Edges.row e.val, Edges.row_lt e⟩ : Fin 32768) k) := by
    rw [ix2_eq_valueIdx, ix2_eq_valueIdx]
    exact Routing.gather_row _ rfl rfl rfl rfl rfl x _ _ _ _ (wrap_at r e _ (Edges.row_lt e) (hr e)) (by decide)
  have b : broadcastInDim S2097152x32 ![0, 1] bcast_S2097152x1_S2097152x32_0_1
      (broadcastInDim S2097152x1 ![0] bcast_S2097152_S2097152x1_0 s) (ix2 e k) = s (ix1 e) := by
    pointwise
  exact congrArg₂ (HMul.hMul (α := EReal) (β := EReal)) g (b.trans (hs e))

/-- What arrives at each node. -/
def arrive32 (u : FVec Ideal S2097152x32 .f32) (c : IVec S2097152 32) : FVec Ideal S32768x32 .f32 :=
  Host.scatterAdd scatter_S32768x32_S2097152x1_S2097152x32_1_0_0_1
    (broadcastInDim S32768x32 ![] bcast_S_S32768x32 (constant S_ .f32 0x00000000#32)) (wrap c) u

/-- What arrives at a node: a sixty-fourth of every node of its graph. -/
theorem arrive32_at (x : FVec Ideal S32768x32 .f32) (s : FVec Ideal S2097152 .f32) (r c : IVec S2097152 32)
    (hr : ∀ e, r (ix1 e) = BitVec.ofNat 32 (Edges.row e.val)) (hc : ∀ e, c (ix1 e) = BitVec.ofNat 32 (Edges.col e.val))
    (hs : ∀ e, s (ix1 e) = (64 : EReal)⁻¹) (j : Fin 32768) (k : Fin 32) :
    (arrive32 (send32 x s r) c (ix2 j k) : EReal) =
      ∑ q : Fin 64, HMul.hMul (α := EReal) (x (ix2 (mate j q) k)) (64 : EReal)⁻¹ := by
  unfold arrive32
  rw [Arrivals.rows_at _ rfl rfl rfl rfl, arrive c hc]
  have z : (broadcastInDim S32768x32 ![] bcast_S_S32768x32 (constant (F := Ideal) S_ .f32 0x00000000#32) (ix2 j k) : EReal) = 0 := by
    pointwise
  rw [z, zero_add]
  refine Finset.sum_congr rfl fun q _ => ?_
  rw [send32_at x s r hr hs, row_edge]

/-- What each edge carries: the entries of the node it leaves, weighed. -/
def send64 (x : FVec Ideal S32768x64 .f32) (s : FVec Ideal S2097152 .f32) (r : IVec S2097152 32) : FVec Ideal S2097152x64 .f32 :=
  mulf (Host.gather gather_S32768x64_S2097152x1_S2097152x64_1_0_n_n_0_1_164 x (wrap r))
    (broadcastInDim S2097152x64 ![0, 1] bcast_S2097152x1_S2097152x64_0_1
      (broadcastInDim S2097152x1 ![0] bcast_S2097152_S2097152x1_0 s))

/-- What each edge carries, at an index. -/
theorem send64_at (x : FVec Ideal S32768x64 .f32) (s : FVec Ideal S2097152 .f32) (r : IVec S2097152 32)
    (hr : ∀ e, r (ix1 e) = BitVec.ofNat 32 (Edges.row e.val)) (hs : ∀ e, s (ix1 e) = (64 : EReal)⁻¹) (e : Fin 2097152)
    (k : Fin 64) :
    (send64 x s r (ix2 e k) : EReal) = HMul.hMul (α := EReal) (x (ix2 ⟨Edges.row e.val, Edges.row_lt e⟩ k)) (64 : EReal)⁻¹ := by
  have g : Host.gather gather_S32768x64_S2097152x1_S2097152x64_1_0_n_n_0_1_164 x (wrap r) (ix2 e k) =
      x (ix2 (⟨Edges.row e.val, Edges.row_lt e⟩ : Fin 32768) k) := by
    rw [ix2_eq_valueIdx, ix2_eq_valueIdx]
    exact Routing.gather_row _ rfl rfl rfl rfl rfl x _ _ _ _ (wrap_at r e _ (Edges.row_lt e) (hr e)) (by decide)
  have b : broadcastInDim S2097152x64 ![0, 1] bcast_S2097152x1_S2097152x64_0_1
      (broadcastInDim S2097152x1 ![0] bcast_S2097152_S2097152x1_0 s) (ix2 e k) = s (ix1 e) := by
    pointwise
  exact congrArg₂ (HMul.hMul (α := EReal) (β := EReal)) g (b.trans (hs e))

/-- What arrives at each node. -/
def arrive64 (u : FVec Ideal S2097152x64 .f32) (c : IVec S2097152 32) : FVec Ideal S32768x64 .f32 :=
  Host.scatterAdd scatter_S32768x64_S2097152x1_S2097152x64_1_0_0_1
    (broadcastInDim S32768x64 ![] bcast_S_S32768x64 (constant S_ .f32 0x00000000#32)) (wrap c) u

/-- What arrives at a node: a sixty-fourth of every node of its graph. -/
theorem arrive64_at (x : FVec Ideal S32768x64 .f32) (s : FVec Ideal S2097152 .f32) (r c : IVec S2097152 32)
    (hr : ∀ e, r (ix1 e) = BitVec.ofNat 32 (Edges.row e.val)) (hc : ∀ e, c (ix1 e) = BitVec.ofNat 32 (Edges.col e.val))
    (hs : ∀ e, s (ix1 e) = (64 : EReal)⁻¹) (j : Fin 32768) (k : Fin 64) :
    (arrive64 (send64 x s r) c (ix2 j k) : EReal) =
      ∑ q : Fin 64, HMul.hMul (α := EReal) (x (ix2 (mate j q) k)) (64 : EReal)⁻¹ := by
  unfold arrive64
  rw [Arrivals.rows_at _ rfl rfl rfl rfl, arrive c hc]
  have z : (broadcastInDim S32768x64 ![] bcast_S_S32768x64 (constant (F := Ideal) S_ .f32 0x00000000#32) (ix2 j k) : EReal) = 0 := by
    pointwise
  rw [z, zero_add]
  refine Finset.sum_congr rfl fun q _ => ?_
  rw [send64_at x s r hr hs, row_edge]

end Cert.RefGraph

end
-- ==== Proof.RefNodes.lean ====
/- The reference's nodes at an index. -/
module

public import proofs.«01_k».proof.Proof.RefConv
public import proofs.«01_k».proof.Proof.Numbers

@[expose] public section

set_option maxRecDepth 16384

noncomputable section

open scoped BigOperators

namespace Cert.RefNodes

open Cert.ReferenceIdeal Cert.ReferenceIdeal.Gen Cert.ReferenceIdeal.Value
open Idealize.ShloMosaic Idealize.ShloMosaic.TcCoe

variable (V : Valuation τ sig (Elt Ideal))

/-- The second layer of the images. -/
def maps : FVec Ideal S32768x16x16x16 .f32 :=
  maximumf (addf (res_main_v124 V) (broadcastInDim S32768x16x16x16 ![0, 1, 2, 3] bcast_S1x16x1x1_S32768x16x16x16_0_1_2_3
    (broadcastInDim S1x16x1x1 ![1] bcast_S16_S1x16x1x1_1 (V (Proc.devRef .tc main_arg5)))))
    (broadcastInDim S32768x16x16x16 ![] bcast_S_S32768x16x16x16 (constant S_ .f32 0x00000000#32))

theorem maps_at (n : Fin 32768) (q y x : Fin 16) :
    maps V (ix4 n q y x) = Net.maps (RefConv.weights V) (RefConv.picture V n) q y x := by
  pointwise [maps]
  rw [RefConv.conv2_at]
  rfl

/-- The features of the images. -/
def features : FVec Ideal S32768x16 .f32 :=
  Host.divf (Host.reduceAdd (maps V) (constant S_ .f32 0x00000000#32) reducesTo_S32768x16x16x16_S32768x16_d2_3 h_S_)
    (broadcastInDim S32768x16 ![] bcast_S_S32768x16 (constant S_ .f32 0x43800000#32))

theorem features_at (n : Fin 32768) (q : Fin 16) :
    features V (ix2 n q) = Net.feature (RefConv.weights V) (RefConv.picture V n) q := by
  pointwise [features]
  rw [show (1132462080#32 : BitVec 32) = 0x43800000#32 from rfl, Numbers.word256, Numbers.div256]
  unfold Net.feature
  simp only [maps_at]

/-- The nodes. -/
def nodes : FVec Ideal S32768x16 .f32 :=
  maximumf (addf (Host.dotGeneral (φ₁ := .f32) (φ₂ := .f32) dot_S32768x16_S16x16_S32768x16_1_0_0_1_n_n none (features V)
    (V (Proc.devRef .tc main_arg6)))
    (broadcastInDim S32768x16 ![0, 1] bcast_S1x16_S32768x16_0_1 (broadcastInDim S1x16 ![1] bcast_S16_S1x16_1 (V (Proc.devRef .tc main_arg7)))))
    (broadcastInDim S32768x16 ![] bcast_S_S32768x16 (constant S_ .f32 0x00000000#32))

theorem nodes_at (n : Fin 32768) (f : Fin 16) :
    nodes V (ix2 n f) = Net.node (RefConv.weights V) (RefConv.picture V n) f := by
  pointwise [nodes]
  simp only [features_at]
  rfl

end Cert.RefNodes

end
-- ==== Proof.RefState.lean ====
/- The reference's graph layers: all nodes of a graph end in the same state, and so does their average. -/
module

public import proofs.«01_k».proof.Proof.RefGraph
public import proofs.«01_k».proof.Proof.RefNodes
public import proofs.«01_k».proof.Proof.Sums

@[expose] public section

set_option maxRecDepth 16384

noncomputable section

open scoped BigOperators

namespace Cert.RefState

open Cert.ReferenceIdeal Cert.ReferenceIdeal.Gen Cert.ReferenceIdeal.Value Cert.RefEdges Cert.RefGraph
open Idealize.ShloMosaic Idealize.ShloMosaic.TcCoe

/-- A dense layer on terms that are not negative, averaged, is the dense layer on their averages. -/
theorem spread (n : Fin 64 → Fin 16 → EReal) (hn : ∀ q f, 0 ≤ n q f) (w : Fin 16 → EReal) :
    ∑ q : Fin 64, (∑ f : Fin 16, n q f * w f) * (64 : EReal)⁻¹ = ∑ f : Fin 16, ((∑ q : Fin 64, n q f) / 64) * w f := by
  have h : ∀ q : Fin 64, (∑ f : Fin 16, n q f * w f) * (64 : EReal)⁻¹ = ∑ f : Fin 16, n q f * (w f * (64 : EReal)⁻¹) := by
    intro q
    rw [Sums.mul_scale _ _ _ Numbers.nonneg64 Numbers.neTop64]
    exact Finset.sum_congr rfl fun f _ => mul_assoc _ _ _
  simp only [h]
  rw [Finset.sum_comm]
  refine Finset.sum_congr rfl fun f _ => ?_
  rw [← Sums.mul_right _ _ fun q _ => hn q f, div_eq_mul_inv, mul_assoc, mul_comm (w f)]

/-- A sixty-fourth of 64 equal terms. -/
theorem same (x : EReal) : ∑ _q : Fin 64, x * (64 : EReal)⁻¹ = x := by
  rw [← Sums.mul_scale _ _ _ Numbers.nonneg64 Numbers.neTop64, ← div_eq_mul_inv, Numbers.copies]

variable (V : Valuation τ sig (Elt Ideal))

/-- The graph weights among the arguments. -/
def weights : Net.GraphWeights :=
  Args.graphWeights (V (Proc.devRef .tc main_arg8)) (V (Proc.devRef .tc main_arg9)) (V (Proc.devRef .tc main_arg10))
    (V (Proc.devRef .tc main_arg11)) (V (Proc.devRef .tc main_arg12)) (V (Proc.devRef .tc main_arg13))
    (V (Proc.devRef .tc main_arg14)) (V (Proc.devRef .tc main_arg15))

/-- The averages of graph `g`. -/
def average (g : Fin 512) : Fin 16 → EReal :=
  Net.average (RefConv.weights V) fun r => RefConv.picture V ⟨64 * g.val + r.val, by omega⟩

/-- The graph node `j` lies in. -/
def graph (j : Fin 32768) : Fin 512 := ⟨j.val / 64, by omega⟩

theorem graph_mate (j : Fin 32768) (q : Fin 64) : graph (mate j q) = graph j := Fin.ext (by
  show (64 * (j.val / 64) + q.val) / 64 = j.val / 64
  omega)

/-- The weights of the edges of the first layer. -/
def scale1 : FVec Ideal S2097152 .f32 := scale (res_main_v171 V) (res_main_v156 V) (res_main_v157 V)

theorem degree_eq : (res_main_v166 V : FVec Ideal S32768 .f32) = degree (res_main_v157 V) := by
  unfold res_main_v166 degree wrap
  rfl

theorem root_eq : (res_main_v171 V : FVec Ideal S32768 .f32) = root (res_main_v166 V) := by
  unfold res_main_v171 root
  rfl

theorem scale1_at (e : Fin 2097152) : scale1 V (ix1 e) = (64 : EReal)⁻¹ := by
  refine scale_at _ _ _ (RefWords.rows_at V) (RefWords.cols_at V) (fun j => ?_) e
  rw [root_eq, degree_eq]
  exact root_at _ j (degree_at _ (RefWords.cols_at V) j)

/-- The weights of the edges of the second layer. -/
def scale2 : FVec Ideal S2097152 .f32 := scale (res_main_v227 V) (res_main_v212 V) (res_main_v213 V)

theorem scale2_eq : scale2 V = scale1 V := by
  unfold scale2 scale1
  rfl

/-- The nodes after the first dense layer. -/
def dense1 : FVec Ideal S32768x32 .f32 :=
  Host.dotGeneral (φ₁ := .f32) (φ₂ := .f32) dot_S32768x16_S16x32_S32768x32_1_0_0_1_n_n none (RefNodes.nodes V)
    (V (Proc.devRef .tc main_arg8))

theorem dense1_at (j : Fin 32768) (k : Fin 32) :
    (dense1 V (ix2 j k) : EReal) =
      ∑ f : Fin 16, Net.node (RefConv.weights V) (RefConv.picture V j) f * (weights V).w1 f k := by
  pointwise [dense1]
  simp only [RefNodes.nodes_at]
  rfl

/-- A bias added, and the rectifier. -/
def biased32 (a : FVec Ideal S32768x32 .f32) (b : FVec Ideal S32 .f32) : FVec Ideal S32768x32 .f32 :=
  maximumf (addf a (broadcastInDim S32768x32 ![0, 1] bcast_S1x32_S32768x32_0_1
      (broadcastInDim S1x32 ![1] bcast_S32_S1x32_1 b)))
    (broadcastInDim S32768x32 ![] bcast_S_S32768x32 (constant S_ .f32 0x00000000#32))

theorem biased32_at (a : FVec Ideal S32768x32 .f32) (b : FVec Ideal S32 .f32) (j : Fin 32768) (k : Fin 32) :
    (biased32 a b (ix2 j k) : EReal) = max (HAdd.hAdd (α := EReal) (β := EReal) (a (ix2 j k)) (b (ix1 k))) 0 := by
  pointwise [biased32]

/-- The nodes after the first graph layer. -/
def state1 : FVec Ideal S32768x32 .f32 :=
  biased32 (arrive32 (send32 (dense1 V) (scale1 V) (res_main_v156 V)) (res_main_v157 V)) (V (Proc.devRef .tc main_arg9))

theorem state1_at (j : Fin 32768) (k : Fin 32) :
    (state1 V (ix2 j k) : EReal) = Net.rect (average V (graph j)) (weights V).w1 (weights V).c1 k := by
  unfold state1
  rw [biased32_at, arrive32_at _ _ _ _ (RefWords.rows_at V) (RefWords.cols_at V) (scale1_at V)]
  simp only [dense1_at]
  rw [spread (fun q f => Net.node (RefConv.weights V) (RefConv.picture V (mate j q)) f) (fun q f => le_max_right _ _)]
  rfl

/-- The nodes after the second dense layer. -/
def dense2 : FVec Ideal S32768x64 .f32 :=
  Host.dotGeneral (φ₁ := .f32) (φ₂ := .f32) dot_S32768x32_S32x64_S32768x64_1_0_0_1_n_n none (state1 V)
    (V (Proc.devRef .tc main_arg10))

theorem dense2_at (j : Fin 32768) (k : Fin 64) :
    (dense2 V (ix2 j k) : EReal) =
      ∑ f : Fin 32, Net.rect (average V (graph j)) (weights V).w1 (weights V).c1 f * (weights V).w2 f k := by
  pointwise [dense2]
  simp only [state1_at]
  rfl

/-- What the edges carry in the second layer. -/
def sent2 : FVec Ideal S2097152x64 .f32 := send64 (dense2 V) (scale2 V) (res_main_v212 V)

/-- It is what the reference computes. -/
theorem sent2_eq : (res_main_v252 V : FVec Ideal S2097152x64 .f32) = sent2 V := by
  unfold res_main_v252 sent2 send64 dense2 state1 biased32 arrive32 send32 dense1 scale1 scale2 scale wrap RefNodes.nodes
    RefNodes.features RefNodes.maps
  rfl

/-- A bias added, and the rectifier. -/
def biased64 (a : FVec Ideal S32768x64 .f32) (b : FVec Ideal S64 .f32) : FVec Ideal S32768x64 .f32 :=
  maximumf (addf a (broadcastInDim S32768x64 ![0, 1] bcast_S1x64_S32768x64_0_1
      (broadcastInDim S1x64 ![1] bcast_S64_S1x64_1 b)))
    (broadcastInDim S32768x64 ![] bcast_S_S32768x64 (constant S_ .f32 0x00000000#32))

theorem biased64_at (a : FVec Ideal S32768x64 .f32) (b : FVec Ideal S64 .f32) (j : Fin 32768) (k : Fin 64) :
    (biased64 a b (ix2 j k) : EReal) = max (HAdd.hAdd (α := EReal) (β := EReal) (a (ix2 j k)) (b (ix1 k))) 0 := by
  pointwise [biased64]

/-- The nodes after the second graph layer. -/
def state2 : FVec Ideal S32768x64 .f32 :=
  biased64 (arrive64 (sent2 V) (res_main_v213 V)) (V (Proc.devRef .tc main_arg11))

theorem state2_at (j : Fin 32768) (k : Fin 64) :
    (state2 V (ix2 j k) : EReal) = Net.graphState (weights V) (average V (graph j)) k := by
  have h : arrive64 (sent2 V) (res_main_v213 V) (ix2 j k) =
      ∑ f : Fin 32, Net.rect (average V (graph j)) (weights V).w1 (weights V).c1 f * (weights V).w2 f k := by
    unfold sent2
    rw [scale2_eq, RefWords.rows2_eq, RefWords.cols2_eq,
      arrive64_at _ _ _ _ (RefWords.rows_at V) (RefWords.cols_at V) (scale1_at V)]
    simp only [dense2_at, graph_mate]
    exact same _
  unfold state2
  rw [biased64_at, h]
  rfl

end Cert.RefState

end
-- ==== Proof.RefHead.lean ====
/- The reference's head at an index, and its result. -/
module

public import proofs.«01_k».proof.Proof.RefState

@[expose] public section

set_option maxRecDepth 16384

noncomputable section

open scoped BigOperators

namespace Cert.RefHead

open Cert.ReferenceIdeal Cert.ReferenceIdeal.Gen Cert.ReferenceIdeal.Value
open Idealize.ShloMosaic Idealize.ShloMosaic.TcCoe

/-- The average of each graph's 64 rows. -/
def mean (s : FVec Ideal S32768x64 .f32) : FVec Ideal S512x64 .f32 :=
  Host.divf (Host.reduceAdd (shapeCast _ s shapeCasts_S32768x64_S512x64x64) (constant S_ .f32 0x00000000#32)
    reducesTo_S512x64x64_S512x64_d1 h_S_) (broadcastInDim S512x64 ![] bcast_S_S512x64 (constant S_ .f32 0x42800000#32))

theorem mean_at (s : FVec Ideal S32768x64 .f32) (g : Fin 512) (k : Fin 64) (x : EReal)
    (h : ∀ j : Fin 32768, j.val / 64 = g.val → s (ix2 j k) = x) : mean s (ix2 g k) = x := by
  pointwise [mean]
  rw [show (1115684864#32 : BitVec 32) = 0x42800000#32 from rfl, Numbers.word64, Numbers.div64]
  refine (congrArg (· / (64 : EReal)) (Finset.sum_congr rfl fun r _ => h _ ?_)).trans (Numbers.copies x)
  have hr : r.val < 64 := r.isLt
  show (g.val * 64 + r.val) / 64 = g.val
  omega

/-- The states beside the latent vectors. -/
def joined (s l : FVec Ideal S512x64 .f32) : FVec Ideal S512x128 .f32 :=
  concatenate S512x128 1 [⟨S512x64, s⟩, ⟨S512x64, l⟩] concatenates_S512x64_S512x64_S512x128_d1

theorem joined_at (s l : FVec Ideal S512x64 .f32) (g : Fin 512) (k : Fin 128) :
    joined s l (ix2 g k) = Net.joined (fun q => s (ix2 g q)) (fun q => l (ix2 g q)) k := by
  pointwise [joined]
  rfl

/-- The head. -/
def head (x : FVec Ideal S512x128 .f32) (f1 : FVec Ideal S128x64 .f32) (d1 : FVec Ideal S64 .f32) (f2 : FVec Ideal S64x2 .f32)
    (d2 : FVec Ideal S2 .f32) : FVec Ideal S512x2 .f32 :=
  addf (Host.dotGeneral dot_S512x64_S64x2_S512x2_1_0_0_1_n_n none
    (maximumf (addf (Host.dotGeneral dot_S512x128_S128x64_S512x64_1_0_0_1_n_n none x f1)
      (broadcastInDim S512x64 ![0, 1] bcast_S1x64_S512x64_0_1 (broadcastInDim S1x64 ![1] bcast_S64_S1x64_1 d1)))
      (broadcastInDim S512x64 ![] bcast_S_S512x64 (constant S_ .f32 0x00000000#32))) f2)
    (broadcastInDim S512x2 ![0, 1] bcast_S1x2_S512x2_0_1 (broadcastInDim S1x2 ![1] bcast_S2_S1x2_1 d2))

theorem head_at (x : FVec Ideal S512x128 .f32) (f1 : FVec Ideal S128x64 .f32) (d1 : FVec Ideal S64 .f32)
    (f2 : FVec Ideal S64x2 .f32) (d2 : FVec Ideal S2 .f32) (g : Fin 512) (k : Fin 2) :
    head x f1 d1 f2 d2 (ix2 g k) =
      Net.dense (Net.rect (fun q => x (ix2 g q)) (fun q p => f1 (ix2 q p)) fun p => d1 (ix1 p)) (fun q p => f2 (ix2 q p))
        (fun p => d2 (ix1 p)) k := by
  pointwise [head]
  rfl

variable (V : Valuation τ sig (Elt Ideal))

/-- The reference's result. -/
def result : FVec Ideal S512x2 .f32 :=
  head (joined (mean (RefState.state2 V)) (V (Proc.devRef .tc main_arg1))) (V (Proc.devRef .tc main_arg12))
    (V (Proc.devRef .tc main_arg13)) (V (Proc.devRef .tc main_arg14)) (V (Proc.devRef .tc main_arg15))

theorem result_at (g : Fin 512) (k : Fin 2) :
    result V (ix2 g k) = Args.outcome (RefConv.weights V) (RefState.weights V) (V (Proc.devRef .tc main_arg0))
      (V (Proc.devRef .tc main_arg1)) g k := by
  unfold result
  rw [head_at]
  have m : (fun q => mean (RefState.state2 V) (ix2 g q)) = Net.graphState (RefState.weights V) (RefState.average V g) := by
    funext q
    refine mean_at _ g q _ fun j hj => ?_
    rw [RefState.state2_at, show RefState.graph j = g from Fin.ext hj]
  have x : (fun q => joined (mean (RefState.state2 V)) (V (Proc.devRef .tc main_arg1)) (ix2 g q)) =
      Net.joined (Net.graphState (RefState.weights V) (RefState.average V g))
        (fun l => (V (Proc.devRef .tc main_arg1) : FVec Ideal S512x64 .f32) (ix2 g l)) := by
    funext q
    rw [joined_at, m]
  rw [x]
  rfl

end Cert.RefHead

end
-- ==== Proof.RefRun.lean ====
/- The reference's run: it ends with its result in place and the arguments as launched. -/
module

public import proofs.«01_k».proof.Proof.RefHead

@[expose] public section

set_option maxRecDepth 16384

noncomputable section

namespace Cert.RefRun

open Cert.ReferenceIdeal Cert.ReferenceIdeal.Gen Cert.ReferenceIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- Every run ends with the result read off the launch's arguments. -/
theorem run : θ_run defs (onTc (τ := τ) (main (F := Ideal))) ⟨m, fun _ => 0, ρ⟩ (fun r => ∀ c : Dev nD,
      r.2.mem ((c.tc : Thread nD τ).loc main_v280) = RefHead.result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run _ _ _).mono (fun r h c => ⟨(h c).1.trans ?_, (h c).2⟩) (Value.run (F := Ideal) m ρ)
  rw [RefState.sent2_eq]
  unfold RefHead.result RefHead.head RefHead.joined RefHead.mean RefState.state2 RefState.biased64
  rfl

end Cert.RefRun

end
-- ==== Proof.lean ====
/- The claims about the graph classifier's kernel (`Kernel`), the same text read over the extended reals
   (`KernelIdeal`) and the plain reference (`ReferenceIdeal`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.SL.Sem

/-- The reference runs, keeps its arguments and ends with every semaphore at zero: it has none. -/
theorem reference_frame : Cert.quiescent_ReferenceIdeal (hReferenceIdeal := Cert.ReferenceIdeal.Gen.facts) := by
  intro m g _
  refine (θ_run _ _ _).mono (fun r h => ⟨fun c => (h c).2, ?_⟩) (Cert.ReferenceIdeal.Value.run (F := Ideal) m g)
  exact sem_eq_zero_of_no_sems rfl r.2

set_option maxHeartbeats 4000000 in
/-- On arguments that agree, the reference's result is the kernel's: both are the network's outcome. -/
theorem results_agree (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.RefHead.result (launchContents m' c) = Cert.Array1.result m g c := by
  funext i
  obtain ⟨j, k, rfl⟩ : ∃ (j : Fin 512) (k : Fin 2), i = ix2 j k := ⟨i 0, i 1, eq_ix2 i⟩
  refine (Cert.RefHead.result_at (launchContents m' c) j k).trans ?_
  have hw : Cert.RefConv.weights (launchContents m' c) = Cert.Operands.weights m g c := by
    unfold Cert.RefConv.weights Cert.Operands.weights
    exact (congr (congr (congr (congr (congr (congrArg Cert.Args.imageWeights h2) h3) h4) h5) h6) h7)
  have hg : Cert.RefState.weights (launchContents m' c) = Cert.HeadOperands.weights m g c := by
    unfold Cert.RefState.weights Cert.HeadOperands.weights
    exact (congr (congr (congr (congr (congr (congr (congr (congrArg Cert.Args.graphWeights h8) h9) h10) h11) h12) h13) h14) h15)
  rw [hw, hg]
  exact congrFun (congrFun (congr (congrArg (Cert.Args.outcome (Cert.Operands.weights m g c) (Cert.HeadOperands.weights m g c)) h0) h1) j) k

set_option maxHeartbeats 4000000 in
/-- From memories holding the same arguments the kernel and the reference end with the same result. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Array1.result m g c, Cert.KernelRun.run m g, ?_⟩
  refine (θ_run _ _ _).mono (fun r h c => ⟨(h c).1.trans ?_, (h c).2⟩) (Cert.RefRun.run m' g')
  obtain ⟨h0, h1, h2, h3, h4, h5, h6, h7, h8, h9, h10, h11, h12, h13, h14, h15⟩ := hargs c
  exact results_agree m g m' c h0 h1 h2 h3 h4 h5 h6 h7 h8 h9 h10 h11 h12 h13 h14 h15

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    algebraic⟩

end Cert.Proof

end
